-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "sin_m" .f32 0x3EF57744#32 ((Real.sqrt (15795093927 / 68719476736) : ℝ) : EReal)

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x100000 .f32) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Pre_in_range_finite.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Kernel.lean ====
abbrev S1024x100000 : Shape := ⟨2, ![1024, 100000]⟩
abbrev S1024 : Shape := ⟨1, ![1024]⟩
abbrev S102400000 : Shape := ⟨1, ![102400000]⟩
abbrev S32 : Shape := ⟨1, ![32]⟩
abbrev S_ : Shape := ⟨0, ![]⟩
abbrev S16 : Shape := ⟨1, ![16]⟩
abbrev S1024x1 : Shape := ⟨2, ![1024, 1]⟩
abbrev S1024x2048 : Shape := ⟨2, ![1024, 2048]⟩

abbrev nBuf : Table → Nat
  | .hbm => 7
  | .local .tc .vmem => 6
  | .local .scVector .vmem => 4
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S1024, .f32⟩
  | .hbm, ⟨4, _⟩ => ⟨S1024x1, .i32⟩
  | .hbm, ⟨5, _⟩ => ⟨S1024x1, .f32⟩
  | .hbm, ⟨6, _⟩ => ⟨S1024x100000, .f32⟩
  | .local .tc .vmem, ⟨0, _⟩ => ⟨S1024x1, .i32⟩
  | .local .tc .vmem, ⟨1, _⟩ => ⟨S1024x1, .f32⟩
  | .local .tc .vmem, ⟨2, _⟩ => ⟨S1024x2048, .f32⟩
  | .local .tc .vmem, ⟨3, _⟩ => ⟨S1024x2048, .f32⟩
  | .local .tc .vmem, ⟨4, _⟩ => ⟨S1024x2048, .f32⟩
  | .local .tc .vmem, ⟨5, _⟩ => ⟨S1024x2048, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | .local .scVector .vmem, ⟨3, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨2, ![1, 49], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "sin_m" => some ((Real.sqrt (15795093927 / 68719476736) : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 72
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x1, .i32⟩
  | .hbm, ⟨67, _⟩ => ⟨S1024x2, .i32⟩
  | .hbm, ⟨68, _⟩ => ⟨S1024x100000, .f32⟩
  | .hbm, ⟨69, _⟩ => ⟨S_, .f32⟩
  | .hbm, ⟨70, _⟩ => ⟨S1024x100000, .f32⟩
  | .hbm, ⟨71, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call3_v0 : Ref sig .tc := ⟨.hbm, 48, rfl⟩
abbrev main_call3_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_c_12 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Proof.Sc.Setup.lean ====
/-
  The set-up of the run: the program as the SparseCore launch theorem sees it, the resource algebra (the handshakes'
  rounds, the TensorCore pipeline's rounds, the transfers' counters), the pieces of the operands each tile of the
  SparseCore call takes, and what the call computes (`scOut`), one scalar function of one gathered logit per row.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Margin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the program below the SparseCore launch: the TensorCore pipeline's and the kernels'. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The call runs on both SparseCores of a device. -/
theorem nCore_zero : (K (F := F)).nCore 0 = 2 := rfl
/-- The call runs on all sixteen tiles of each. -/
theorem nSub_zero : (K (F := F)).nSub 0 = 16 := rfl
/-- The definitions below the launch: the pipeline's over the kernels'. -/
abbrev D : Defs nD τ sig (Elt F) (ΛP (F := F)) := Pipeline.defs pcfgs defs₀
/-- No variants of the kernels' own. -/
abbrev 𝒱₀ : Variants := Variants.none
/-- The launch's variants. -/
abbrev 𝒱 : Variants := 𝒱₀.lift
/-- The variant a tile starts at. -/
abbrev v₀ : 𝒱.V := Sum.inl none

/-- The layout facts of the call's handshake semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's rounds. -/
abbrev UP : Type := URounds (GSem nD τ sig) Unit
/-- Both, and the local transfers' counters. -/
abbrev UU : Type := UH × UP × Counters

local notation "𝕄" => MT nD τ sig (HIx 1) (Elt F) ℕ UU ℕ

/-- Where the handshakes' rounds live. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the pipeline's rounds live. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers -/

/-- The labels. -/
abbrev lLoc (d : Dev nD) : Loc nD τ sig := (SparseCore.T d).loc main_arg1
/-- The flattened logits. -/
abbrev fLoc (d : Dev nD) : Loc nD τ sig := (SparseCore.T d).loc main_v0
/-- The call's result, one margined and scaled logit per row. -/
abbrev oLoc (d : Dev nD) : Loc nD τ sig := (SparseCore.T d).loc main_v1

/-- The labels, whole, as a tile sees them. -/
abbrev lV : Memref Cert.KernelIdeal.sig Kind.scVector Space.hbm Cert.KernelIdeal.S1024 EltTy.i32 := Memref.whole Cert.KernelIdeal.main_arg1_scv
/-- The flattened logits, whole. -/
abbrev fV : Memref Cert.KernelIdeal.sig Kind.scVector Space.hbm Cert.KernelIdeal.S102400000 EltTy.f32 := Memref.whole Cert.KernelIdeal.main_v0_scv
/-- The call's result, whole. -/
abbrev oV : Memref Cert.KernelIdeal.sig Kind.scVector Space.hbm Cert.KernelIdeal.S1024 EltTy.f32 := Memref.whole Cert.KernelIdeal.main_v1_scv
/-- The tile's labels. -/
abbrev aV : Memref Cert.KernelIdeal.sig Kind.scVector Space.vmem Cert.KernelIdeal.S32 EltTy.i32 := Memref.whole Cert.KernelIdeal.cc0_scratch0
/-- The tile's offsets. -/
abbrev bV : Memref Cert.KernelIdeal.sig Kind.scVector Space.vmem Cert.KernelIdeal.S32 EltTy.i32 := Memref.whole Cert.KernelIdeal.cc0_scratch1
/-- The gathered logits. -/
abbrev gV : Memref Cert.KernelIdeal.sig Kind.scVector Space.vmem Cert.KernelIdeal.S32 EltTy.f32 := Memref.whole Cert.KernelIdeal.cc0_scratch2
/-- The new values. -/
abbrev rV : Memref Cert.KernelIdeal.sig Kind.scVector Space.vmem Cert.KernelIdeal.S32 EltTy.f32 := Memref.whole Cert.KernelIdeal.cc0_scratch3

/-- The thousand and twenty-four rows fall into thirty-two parts. -/
theorem rdiv : 32 ∣ S1024.size 0 := ⟨32, rfl⟩
/-- Part `k` of the rows. -/
abbrev part (k : Fin 32) : Rect S1024 := Rect.part (s := S1024) (a₀ := 0) rdiv k
/-- Its indices. -/
abbrev pSet (k : Fin 32) : Finset S1024.Idx := (part k).set
/-- The part that tile `s` of SparseCore `c` works on. -/
def tno (c : Fin 2) (s : Fin 16) : Fin 32 := ⟨2 * s.val + c.val, by omega⟩

/-! ## What the call computes -/

section Lane

/-- A logit clipped to the range of a cosine. -/
def clipV (t : F .f32) : F .f32 :=
  FloatOps.minimumf (Scalar.ofBits .f32 0x3F7FFFFE#32) (FloatOps.maximumf (Scalar.ofBits .f32 0xBF7FFFFE#32) t)
/-- One minus the clipped logit's square, bounded away from zero. -/
def radV (t : F .f32) : F .f32 :=
  FloatOps.maximumf (FloatOps.subf (Scalar.ofBits .f32 0x3F800000#32) (FloatOps.mulf (clipV t) (clipV t))) (Scalar.ofBits .f32 0x0DA24260#32)
/-- One refinement of a root `y` of `a`. -/
def stepV (a y : F .f32) : F .f32 := FloatOps.mulf (Scalar.ofBits .f32 0x3F000000#32) (FloatOps.addf y (FloatOps.divf a y))
/-- The root, refined three times. -/
def rootV (t : F .f32) : F .f32 := stepV (radV t) (stepV (radV t) (stepV (radV t) (FloatOps.sqrt (radV t))))
/-- The margined logit: the cosine of the angle plus the margin, by the addition formula. -/
def margV (t : F .f32) : F .f32 :=
  FloatOps.subf (FloatOps.mulf (clipV t) (Scalar.ofBits .f32 0x3F60A940#32)) (FloatOps.mulf (rootV t) (Named.named κ "sin_m" 0x3EF57744#32))
/-- A row's new value: the margined logit above the threshold, the clipped one at or below it, scaled. -/
def laneV (t : F .f32) : F .f32 :=
  FloatOps.mulf (Scalar.select (FloatOps.cmpf .ogt t (Scalar.ofBits .f32 0xBF60A940#32)) (margV t) (clipV t)) (Scalar.ofBits .f32 0x42800000#32)

end Lane

/-- Row `i`'s word offset into the flattened logits, as the kernel computes it. -/
def offW (lab : S1024.Idx → BitVec 32) (i : S1024.Idx) : BitVec 32 :=
  IntOp.addi (IntOp.muli (BitVec.ofNat 32 (i 0).val) 100000#32) (lab i)

/-- An index of the flattened logits from a number. -/
def flatIx (n : ℕ) : S102400000.Idx := fun | 0 => ⟨n % 102400000, Nat.mod_lt _ (by decide)⟩

/-- What the call leaves in its result. -/
def scOut (lab : S1024.Idx → BitVec 32) (fl : S102400000.Idx → F .f32) : S1024.Idx → F .f32 :=
  fun i => laneV (fl (flatIx (offW lab i).toNat))

/-- The labels' range: below the number of columns. -/
def InRange (lab : S1024.Idx → BitVec 32) : Prop := ∀ i, (lab i).toNat < 100000

omit [FloatOps F] [Named F] in
/-- A label in range makes the row's offset its row times the columns plus its label. -/
theorem offW_toNat {lab : S1024.Idx → BitVec 32} (h : InRange lab) (i : S1024.Idx) :
    (offW lab i).toNat = (i 0).val * 100000 + (lab i).toNat := by
  have h0 : (i 0).val < 1024 := (i 0).isLt
  have h1 := h i
  unfold offW IntOp.addi IntOp.muli
  simp only [BitVec.toNat_add, BitVec.toNat_mul, BitVec.toNat_ofNat]
  omega

end Cert.Proof.Margin

end
-- ==== Proof.Sc.Lane.lean ====
/-
  What the stores of the SparseCore call's body hold: the two halves of the offsets' list and the two halves of the
  new values, each at an index of its half.
-/
module

public import proofs.«01_k».proof.Proof.Sc.Setup
public import Idealize.ShloMosaic.Lib.Pipeline.Value
public import Idealize.ShloMosaic.Lib.Writes

@[expose] public section

set_option maxRecDepth 16384

noncomputable section

namespace Cert.Proof.Margin

open Cert.KernelIdeal Cert.KernelIdeal.Gen
open Idealize.ShloMosaic

variable {F : FTy → Type} [FloatOps F] [Named F]

/-- The row number a half of the list starts from, as a machine word. -/
theorem baseWord (L : grid0.Coords) (j : S16.Idx) (o : ℕ) (ho : o ≤ 16) :
    (BitVec.ofNat 32 (j 0).val + (((BitVec.ofNat 32 (L 1).val * 2#32 + BitVec.ofNat 32 (L 0).val) * 32#32) + BitVec.ofNat 32 o))
      = BitVec.ofNat 32 (64 * (L 1).val + 32 * (L 0).val + (o + (j 0).val)) := by
  have h0 : (L 0).val < 2 := (L 0).isLt
  have h1 : (L 1).val < 16 := (L 1).isLt
  have h2 : (j 0).val < 16 := (j 0).isLt
  apply BitVec.eq_of_toNat_eq
  simp only [BitVec.toNat_add, BitVec.toNat_mul, BitVec.toNat_ofNat]
  omega

/-- The first half of the offsets. -/
theorem pay2_apply (L : grid0.Coords) (v : Vec F S16 .i32) (j : S16.Idx) :
    k0_pay2 L v j = IntOp.addi (IntOp.muli (BitVec.ofNat 32 (64 * (L 1).val + 32 * (L 0).val + (0 + (j 0).val))) 100000#32) (v j) := by
  unfold k0_pay2
  simp only [shapeCast_self]
  rw [← baseWord L j 0 (by omega), ← iota_single_apply .scVector S16 32 0 iota_S16_d0_w32_scVector j]
  rfl

/-- The second half of the offsets. -/
theorem pay3_apply (L : grid0.Coords) (v : Vec F S16 .i32) (j : S16.Idx) :
    k0_pay3 L v j = IntOp.addi (IntOp.muli (BitVec.ofNat 32 (64 * (L 1).val + 32 * (L 0).val + (16 + (j 0).val))) 100000#32) (v j) := by
  unfold k0_pay3
  simp only [shapeCast_self]
  rw [← baseWord L j 16 (by omega), ← iota_single_apply .scVector S16 32 0 iota_S16_d0_w32_scVector j]
  rfl

/-- The first half of the new values. -/
theorem pay6_apply (v : Vec F S16 .f32) (j : S16.Idx) :
    k0_pay6 (k0_pay4 v) (Scalar.ofBits .f32 0x3F7FFFFE#32) (k0_pay5 v) j = laneV (v j) := by
  have h4 : k0_pay4 v = v := shapeCast_self _ _
  have h5 : k0_pay5 v = fun i => FloatOps.maximumf (Scalar.ofBits .f32 0xBF7FFFFE#32) (v i) := by
    unfold k0_pay5; rw [h4]; rfl
  rw [h4, h5]
  unfold k0_pay6
  exact congrFun (shapeCast_self (fun i => laneV (v i)) shapeCasts_S16_S16) j

/-- The second half of the new values. -/
theorem pay1_apply (v : Vec F S16 .f32) (j : S16.Idx) :
    k0_pay1 (k0_pay7 v) (k0_pay8 v) (k0_pay9 v) j = laneV (v j) := by
  have h7 : k0_pay7 v = v := shapeCast_self _ _
  have h8 : k0_pay8 v = fun i => clipV (v i) := by
    unfold k0_pay8; rw [h7]; rfl
  have h9 : k0_pay9 v = fun i => radV (v i) := by
    unfold k0_pay9; rw [h8]; rfl
  rw [h7, h8, h9]
  unfold k0_pay1
  exact congrFun (shapeCast_self (fun i => laneV (v i)) shapeCasts_S16_S16) j

/-- The second half of a list of thirty-two. -/
abbrev hiR : Rect S32 := Rect.unit ![16] S16.size inb_S32_S16_16
/-- Its first half. -/
abbrev loR : Rect S32 := Rect.unit ![0] S16.size inb_S32_S16_0

theorem hiR_emb (x : S16.Idx) : ((hiR.emb x) 0).val = 16 + (x 0).val := by
  simp [Rect.emb, Rect.unit]
theorem loR_emb (x : S16.Idx) : ((loR.emb x) 0).val = 0 + (x 0).val := by
  simp [Rect.emb, Rect.unit]

/-- The halves cover the list. -/
theorem halves (y : S32.Idx) : y ∈ hiR.set ∨ y ∈ loR.set := by
  have hy : (y 0).val < 32 := (y 0).isLt
  by_cases h : 16 ≤ (y 0).val
  · left
    rw [Rect.mem_set_unit]
    intro a
    match a with
    | 0 => exact ⟨h, by show (y 0).val < 16 + 16; omega⟩
  · right
    rw [Rect.mem_set_unit]
    intro a
    match a with
    | 0 => exact ⟨Nat.zero_le _, by show (y 0).val < 0 + 16; omega⟩

end Cert.Proof.Margin

end
-- ==== Proof.Sc.Tile.lean ====
/-
  One tile's run of the SparseCore call, at a symbolic core and tile: it fetches its thirty-two labels, writes their
  rows' offsets into the flattened logits, gathers the logits at them, computes each row's new value and writes the
  thirty-two out. The run carries the values: the tile's part of the result ends at `scOut`.
-/
module

public import proofs.«01_k».proof.Proof.Sc.Lane

@[expose] public section

noncomputable section

namespace Cert.Proof.Margin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A tile's pieces of the operands -/

/-- Part `k`'s read share of the flattened logits. -/
abbrev fShare (k : Fin 32) : PosShare TreeShare := pieceOf fullShare 32 (by decide) k

/-- Part `k` of the labels. -/
abbrev lPart (d : Dev nD) (k : Fin 32) (f : Buf (Elt F) (lLoc d)) : sProp 𝕄 := lLoc d ↦[pSet k]{fullShare} f
/-- Part `k`'s share of the flattened logits. -/
abbrev fPart (d : Dev nD) (k : Fin 32) (f : Buf (Elt F) (fLoc d)) : sProp 𝕄 := fLoc d ↦{fShare k} f
/-- Part `k` of the result. -/
abbrev oPart (d : Dev nD) (k : Fin 32) (f : Buf (Elt F) (oLoc d)) : sProp 𝕄 := oLoc d ↦[pSet k]{fullShare} f

section Tile

variable (d : Dev nD) (L : grid0.Coords)

/-- The SparseCore and the tile of the coordinates `L`, as the device's processors. -/
abbrev cV (L : grid0.Coords) : Fin τ.nSC := (L 0).castLE hcore0
abbrev jV (L : grid0.Coords) : Fin τ.nSub := (L 1).castLE hsub0
/-- The part the tile at coordinates `L` works on. -/
abbrev kL (L : grid0.Coords) : Fin 32 := tno (L 0) (L 1)

/-- The tile's rows as it addresses them. -/
abbrev partK (L : grid0.Coords) : Rect S1024 := Rect.unit (s := S1024) (k0_off1 L) S32.size (k0_off1_inb L)
abbrev lK (L : grid0.Coords) : Memref sig .scVector .hbm S32 .i32 := (lV).slice (partK L) (fun _ => rfl)
abbrev oK (L : grid0.Coords) : Memref sig .scVector .hbm S32 .f32 := (oV).slice (partK L) (fun _ => rfl)
/-- All of the flattened logits, as the gather names them. -/
abbrev fAllK : Memref sig .scVector .hbm S102400000 .f32 :=
  (fV).slice (Rect.unit (s := S102400000) ![0] S102400000.size inb_S102400000_S102400000_0) (fun _ => rfl)

/-- The addressed rows are part `kL L`. -/
theorem partK_eq : partK L = part (kL L) := by
  unfold partK part Rect.part Rect.block
  congr 1 <;> funext a
  · rw [k0_off1_eq]
    match a with
    | 0 => simp [Shape.partIx, Shape.partSize, kL, tno]; omega
  · match a with
    | 0 => simp [Shape.partSize]

theorem set_lK : (lK L).view.set = pSet (kL L) := by
  show ((View.whole (main_arg1_scv : Ref sig .scVector)).slice (partK L)).set = _
  rw [View.set_slice_whole, partK_eq]
theorem set_oK : (oK L).view.set = pSet (kL L) := by
  show ((View.whole (main_v1_scv : Ref sig .scVector)).slice (partK L)).set = _
  rw [View.set_slice_whole, partK_eq]

theorem pts_lK (f : Buf (Elt F) (lLoc d)) :
    ((lK L).view.loc (V d (cV L) (jV L)) ↦[(lK L).view.set]{fullShare} f : sProp 𝕄) = lPart d (kL L) f := by
  rw [set_lK]
theorem pts_oK (f : Buf (Elt F) (oLoc d)) :
    ((oK L).view.loc (V d (cV L) (jV L)) ↦[(oK L).view.set]{fullShare} f : sProp 𝕄) = oPart d (kL L) f := by
  rw [set_oK]
theorem pts_fV (q : PosShare TreeShare) (f : Buf (Elt F) (fLoc d)) :
    ((fV).view.loc (V d (cV L) (jV L)) ↦{q} f : sProp 𝕄) = fLoc d ↦{q} f := rfl
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl
theorem pts_gV (f : Buf (Elt F) ((V d (cV L) (jV L)).loc cc0_scratch2)) :
    ((gV).view.loc (V d (cV L) (jV L)) ↦{fullShare} f : sProp 𝕄) = (V d (cV L) (jV L)).loc cc0_scratch2 ↦{fullShare} f := rfl
theorem pts_rV (f : Buf (Elt F) ((V d (cV L) (jV L)).loc cc0_scratch3)) :
    ((rV).view.loc (V d (cV L) (jV L)) ↦{fullShare} f : sProp 𝕄) = (V d (cV L) (jV L)).loc cc0_scratch3 ↦{fullShare} f := rfl

/-- The tile's three DMA semaphores: the gather's, the labels' fetch's, the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped1.sem)

/-- The tile's own semaphores at zero: the three and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The tile's own buffers: the four scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
    Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
    Finset.mem_erase.mpr ⟨fun e => absurd (Proc.devRef_injective _ e) (show (cc0_scratch3 : Ref sig .scVector) ≠ cc0_scratch1 by decide),
    Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## What the tile's buffers hold -/

/-- The row of the result that entry `y` of the tile's lists is for. -/
abbrev rowOf (L : grid0.Coords) (y : S32.Idx) : S1024.Idx := (partK L).emb y

theorem rowOf_val (y : S32.Idx) : (rowOf L y 0).val = 64 * (L 1).val + 32 * (L 0).val + (y 0).val := by
  have h : (rowOf L y 0).val = k0_off1 L 0 + (y 0).val := by simp [rowOf, partK, Rect.emb, Rect.unit]
  rw [h, k0_off1_eq]
  simp

/-- The labels' scratch after the fetch. -/
abbrev labBuf (lab : Buf (Elt F) (lLoc d)) (fa : (aV).view.ty.Contents (Elt F)) : (aV).view.ty.Contents (Elt F) :=
  View.write (Elt F) (aV).view fa (ReadAs.same.apply (View.read (Elt F) (lK L).view lab)) Finset.univ

/-- It holds the labels of the tile's rows. -/
theorem labBuf_apply (lab : Buf (Elt F) (lLoc d)) (fa : (aV).view.ty.Contents (Elt F)) (y : S32.Idx) :
    labBuf d L lab fa y = lab (rowOf L y) := by
  show View.write (Elt F) (View.whole cc0_scratch0) fa _ Finset.univ y = _
  rw [View.write_whole_univ]
  rfl

/-- The offsets' scratch after the two stores. -/
abbrev offBuf (lab : Buf (Elt F) (lLoc d)) (fa : (aV).view.ty.Contents (Elt F)) : (bV).view.ty.Contents (Elt F) :=
  (bV).view.writes (Elt F) (bV).view.junk
    [⟨hiR, k0_pay3 L (View.readAt (Elt F) (aV).view hiR.toLoadRect (labBuf d L lab fa))⟩,
      ⟨loR, k0_pay2 L (View.readAt (Elt F) (aV).view loR.toLoadRect (labBuf d L lab fa))⟩]

/-- It lists the offsets of the tile's rows. -/
theorem offBuf_apply (lab : Buf (Elt F) (lLoc d)) (fa : (aV).view.ty.Contents (Elt F)) (y : S32.Idx) :
    (bV).view.read (Elt F) (offBuf d L lab fa) y = offW lab (rowOf L y) := by
  unfold offBuf
  refine View.read_writes_apply_of_pieces (Val := Elt F) (bV).view _ (fun y => offW lab (rowOf L y)) _ ?_ y ?_
  · intro p hp x
    simp only [List.mem_cons, List.not_mem_nil, or_false] at hp
    rcases hp with rfl | rfl
    · refine (pay3_apply L _ x).trans ?_
      unfold offW
      rw [rowOf_val, hiR_emb]
      exact congrArg _ (labBuf_apply d L lab fa (hiR.emb x))
    · refine (pay2_apply L _ x).trans ?_
      unfold offW
      rw [rowOf_val, loR_emb]
      exact congrArg _ (labBuf_apply d L lab fa (loR.emb x))
  · rcases halves y with h | h
    · exact ⟨_, List.mem_cons_self, h⟩
    · exact ⟨_, List.mem_cons_of_mem _ List.mem_cons_self, h⟩

/-- Every listed offset is in the flattened logits. -/
theorem offBuf_lt (lab : Buf (Elt F) (lLoc d)) (hin : InRange lab) (fa : (aV).view.ty.Contents (Elt F)) (y : S32.Idx) :
    ((bV).view.read (Elt F) (offBuf d L lab fa) y).toNat < 102400000 := by
  rw [offBuf_apply, offW_toNat hin]
  have h0 : ((rowOf L y) 0).val < 1024 := (rowOf L y 0).isLt
  have h1 := hin (rowOf L y)
  omega

/-- What the gather delivers at entry `y`: the flattened logits at the row's offset. -/
theorem gather_apply (lab : Buf (Elt F) (lLoc d)) (fl : Buf (Elt F) (fLoc d)) (idx : S32.Idx → Elt F .i32)
    (hidx : ∀ y, idx y = offW lab (rowOf L y)) (hn : S32.numel = 32) (h : ∀ y, (idx y).toNat < 102400000) (y : S32.Idx) :
    SparseCore.gatherPayload gathers_S102400000_S32 ((fAllK).view.read (Elt F) fl) (SparseCore.rows idx hn h) y
      = fl (flatIx (offW lab (rowOf L y)).toNat) := by
  unfold SparseCore.gatherPayload
  rw [View.read_apply]
  refine congrArg fl ?_
  funext a
  match a with
  | 0 =>
    apply Fin.ext
    have h1 : ∀ z : S102400000.Idx, (((fAllK).view.emb z) 0).val = 0 + (z 0).val := fun z => by
      show 0 + 1 * (z 0).val = _
      omega
    refine (h1 _).trans ?_
    have h2 : (gathers_S102400000_S32.idx (SparseCore.rows idx hn h) y) 0
        = SparseCore.rows idx hn h (y gathers_S102400000_S32.axis') := gathers_S102400000_S32.idx_axis _ y
    rw [h2, Nat.zero_add]
    have h3 : S32.rowMajor.symm ((y gathers_S102400000_S32.axis').cast hn.symm) = y :=
      (S32.rowMajor.symm_apply_eq).2 (Fin.ext (by rw [Shape.rowMajor_val_one]; rfl))
    show (idx (S32.rowMajor.symm ((y gathers_S102400000_S32.axis').cast hn.symm))).toNat = _
    rw [h3, hidx]
    have h4 := h y
    rw [hidx] at h4
    exact (Nat.mod_eq_of_lt h4).symm

/-- The new values' scratch after the two stores, from the gathered logits `g`. -/
abbrev newBuf (fr : (rV).view.ty.Contents (Elt F)) (g : (gV).view.ty.Contents (Elt F)) : (rV).view.ty.Contents (Elt F) :=
  (rV).view.writes (Elt F) fr
    [⟨hiR, k0_pay1 (k0_pay7 (View.readAt (Elt F) (gV).view hiR.toLoadRect g)) (k0_pay8 (View.readAt (Elt F) (gV).view hiR.toLoadRect g))
        (k0_pay9 (View.readAt (Elt F) (gV).view hiR.toLoadRect g))⟩,
      ⟨loR, k0_pay6 (k0_pay4 (View.readAt (Elt F) (gV).view loR.toLoadRect g)) (Scalar.ofBits .f32 0x3F7FFFFE#32)
        (k0_pay5 (View.readAt (Elt F) (gV).view loR.toLoadRect g))⟩]

/-- It lists the new values of the gathered logits. -/
theorem newBuf_apply (fr : (rV).view.ty.Contents (Elt F)) (g : (gV).view.ty.Contents (Elt F)) (y : S32.Idx) :
    (rV).view.read (Elt F) (newBuf fr g) y = laneV (g y) := by
  unfold newBuf
  refine View.read_writes_apply_of_pieces (Val := Elt F) (rV).view _ (fun y => laneV (g y)) _ ?_ y ?_
  · intro p hp x
    simp only [List.mem_cons, List.not_mem_nil, or_false] at hp
    rcases hp with rfl | rfl
    · exact pay1_apply _ x
    · exact pay6_apply _ x
  · rcases halves y with h | h
    · exact ⟨_, List.mem_cons_self, h⟩
    · exact ⟨_, List.mem_cons_of_mem _ List.mem_cons_self, h⟩

/-- The gathered logits' scratch after the gather. -/
abbrev gatBuf (lab : Buf (Elt F) (lLoc d)) (fl : Buf (Elt F) (fLoc d)) (hin : InRange lab) (fa : (aV).view.ty.Contents (Elt F))
    (fg : (gV).view.ty.Contents (Elt F)) : (gV).view.ty.Contents (Elt F) :=
  View.write (Elt F) (gV).view fg
    (SparseCore.gatherPayload gathers_S102400000_S32 ((fAllK).view.read (Elt F) fl)
      (SparseCore.rows (View.read (Elt F) (bV).view (offBuf d L lab fa)) (show S32.numel = 32 by decide) (offBuf_lt d L lab hin fa))) Finset.univ

/-- It holds the flattened logits at the rows' offsets. -/
theorem gatBuf_apply (lab : Buf (Elt F) (lLoc d)) (fl : Buf (Elt F) (fLoc d)) (hin : InRange lab) (fa : (aV).view.ty.Contents (Elt F))
    (fg : (gV).view.ty.Contents (Elt F)) (y : S32.Idx) :
    gatBuf d L lab fl hin fa fg y = fl (flatIx (offW lab (rowOf L y)).toNat) := by
  refine (congrFun (View.write_whole_univ (Val := Elt F) cc0_scratch2 fg _) y).trans ?_
  exact gather_apply d L lab fl _ (offBuf_apply d L lab fa) _ (offBuf_lt d L lab hin fa) y

/-- The result after the tile's write-out: on the tile's rows, the call's values. -/
theorem out_apply (lab : Buf (Elt F) (lLoc d)) (fl : Buf (Elt F) (fLoc d)) (hin : InRange lab) (fa : (aV).view.ty.Contents (Elt F))
    (fg : (gV).view.ty.Contents (Elt F)) (fr : (rV).view.ty.Contents (Elt F)) (o0 : Buf (Elt F) (oLoc d))
    (i : S1024.Idx) (hi : i ∈ (oK L).view.set) :
    (oK L).view.writes (Elt F) o0
      [⟨Rect.whole S32, ReadAs.same.apply (View.read (Elt F) (rV).view (newBuf fr (gatBuf d L lab fl hin fa fg)))⟩] i
      = scOut lab fl i := by
  rw [set_oK, show pSet (kL L) = (partK L).set by rw [partK_eq]] at hi
  obtain ⟨y, rfl⟩ : ∃ y, (partK L).emb y = i := (partK L).exists_idx_of_mem hi
  have h := View.read_writes_cons_emb (Val := Elt F) (v := (oK L).view) (f := o0) (Rect.whole S32)
    (ReadAs.same.apply (View.read (Elt F) (rV).view (newBuf fr (gatBuf d L lab fl hin fa fg)))) [] y
  rw [Rect.emb_whole_apply] at h
  refine Eq.trans ?_ (h.trans ?_)
  · rfl
  · refine (newBuf_apply fr (gatBuf d L lab fl hin fa fg) y).trans ?_
    rw [gatBuf_apply]
    rfl

set_option maxHeartbeats 4000000 in
/-- One tile's run. -/
theorem tile_body (hF : (K (F := F)).Facts) (lab : Buf (Elt F) (lLoc d)) (fl : Buf (Elt F) (fLoc d)) (o0 : Buf (Elt F) (oLoc d))
    (hin : InRange lab) (O : CellTallies nD τ sig (HIx 1)) (W : Waits sig (HIx 1)) (hO : ∀ g, O g none = 0) :
    iprop(levAts (K (F := F)).L (K (F := F)).lev ∗ emp
        ∗ (lPart d (kL L) lab ∗ fPart d (kL L) fl ∗ oPart d (kL L) o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L lV (Memref.isWhole_whole _) fV (Memref.isWhole_whole _) oV (Memref.isWhole_whole _)
            aV (Memref.isWhole_whole _) bV (Memref.isWhole_whole _) gV (Memref.isWhole_whole _) rV (Memref.isWhole_whole _)
            cc0_scratch4 cc0_scoped0 cc0_scoped1)
          fun _ => iprop((lPart d (kL L) lab ∗ fPart d (kL L) fl ∗ oPart d (kL L) (scOut lab fl))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hl, Hf, Ho⟩, ⟨⟨%fa, Ha⟩, ⟨%fb, Hb⟩, ⟨%fg, Hg⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lK (F := F) d L _).symm) $$ Hl
  ihave Ho' := (Entails.of_eq (pts_oK (F := F) d L _).symm) $$ Ho
  ihave Hf' := (Entails.of_eq (pts_fV (F := F) d L _ _).symm) $$ Hf
  ihave Ha' := (Entails.of_eq (pts_aV (F := F) d L _).symm) $$ Ha
  ihave Hb' := (Entails.of_eq (pts_bV (F := F) d L _).symm) $$ Hb
  ihave Hg' := (Entails.of_eq (pts_gV (F := F) d L _).symm) $$ Hg
  ihave Hr' := (Entails.of_eq (pts_rV (F := F) d L _).symm) $$ Hr
  sl_exec
  unfold tile_body.sl.Hb'_2 tile_body.sl.dma0
  ihave Hfs := (pointsTo_split_subset (q := fShare (kL L)) (f := fl) (S := Finset.univ) (Finset.subset_univ (fAllK).view.set)).1 $$ Hf'
  icases Hfs with ⟨Hfs, Hfr⟩
  have hgs : (gV).view.set = Finset.univ := View.set_whole _
  have hbs : (bV).view.set = Finset.univ := View.set_whole _
  ihave Hg'' := (Entails.of_eq (show ((gV).view.loc (V d (cV L) (jV L)) ↦{fullShare} fg : sProp 𝕄)
      = (gV).view.loc (V d (cV L) (jV L)) ↦[(gV).view.set]{fullShare} fg by rw [hgs])) $$ Hg'
  ihave Hb'' := (Entails.of_eq (show ((bV).view.loc (V d (cV L) (jV L)) ↦{fullShare} offBuf d L lab fa : sProp 𝕄)
      = (bV).view.loc (V d (cV L) (jV L)) ↦[(bV).view.set]{fullShare} offBuf d L lab fa by rw [hbs])) $$ Hb'
  have hN : ∀ h : S102400000.Gathers 0 S32, ∑ j, ((gV).slice (S32.rowRect h.axis' j) (S32.stride_rowRect h.axis' j)).view.dmaCredit
      = (gV).view.dmaCredit := by decide
  iapply (SparseCore.wp_indirectGatherLocal countersEmb 𝒱₀ (V d (cV L) (jV L)) none (hg := gathers_S102400000_S32) (default : HIx 1)
      (gV).view.dmaCredit (hN _) (by decide) (offBuf_lt d L lab hin fa)) $$ [Hfs Hg'' Hb'' HsemB]
  · isplitl [Hfs]; · iexact Hfs
    isplitl [Hg'']; · iexact Hg''
    isplitl [Hb'']; · iexact Hb''
    iexact HsemB
  iintro Hfl
  sl_exec
  iapply (Transfers.wp_waitLocalO countersEmb 𝒱₀ (V d (cV L) (jV L)) none (default : HIx 1) (rfl : (gV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hg', Hfs, Hb'⟩, HsemB, HO⟩
  ihave Hf' := (pointsTo_split_subset (q := fShare (kL L)) (f := fl) (S := Finset.univ) (Finset.subset_univ (fAllK).view.set)).2 $$ [Hfs Hfr]; · isplitl [Hfs] <;> iassumption
  ihave Hg3 := (Entails.of_eq (show ((gV).view.loc (V d (cV L) (jV L)) ↦[(gV).view.set]{fullShare} _ : sProp 𝕄)
      = (gV).view.loc (V d (cV L) (jV L)) ↦{fullShare} _ by rw [hgs])) $$ Hg'
  ihave Hb3 := (Entails.of_eq (show ((bV).view.loc (V d (cV L) (jV L)) ↦[(bV).view.set]{fullShare} _ : sProp 𝕄)
      = (bV).view.loc (V d (cV L) (jV L)) ↦{fullShare} _ by rw [hbs])) $$ Hb'
  sl_exec
  sl_step
  unfold tile_body.sl.dma6 tile_body.sl.Hr'_2
  isplitl [Hl' Hf' Ho']
  · isplitl [Hl']; · iapply (Entails.of_eq (pts_lK (F := F) d L _)); iexact Hl'
    isplitl [Hf']; · iexact Hf'
    iapply (Entails.of_eq (pts_oK (F := F) d L _))
    iapply (Entails.of_eq (pointsTo_congr (out_apply d L lab fl hin fa fg fr o0)))
    iexact Ho'
  isplitl [Ha' Hb3 Hg3 Hr' Hbufs]
  · isplitl [Ha']; · iexists _; iexact Ha'
    isplitl [Hb3]; · iexists _; iexact Hb3
    isplitl [Hg3]; · iexists _; iexact Hg3
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Margin

end
-- ==== Proof.Sc.Call.lean ====
/-
  The SparseCore call as the launch sees it: what its handshakes carry, each tile's obligation (`tile_body`), the
  split of the operands over the thirty-two tiles and their join afterwards.
-/
module

public import proofs.«01_k».proof.Proof.Sc.Tile

@[expose] public section

noncomputable section

namespace Cert.Proof.Margin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The flattened logits: the logits in row-major order. -/
def flatOf (x : S1024x100000.Idx → F .f32) : S102400000.Idx → F .f32 :=
  fun j => x (Shape.reshapeEquiv shapeCasts_S1024x100000_S102400000 j)

/-- The labels at the launch. -/
abbrev labM (d : Dev nD) : Buf (Elt F) (lLoc d) := m (lLoc d)
/-- The flattened logits of the launch. -/
abbrev flM (d : Dev nD) : Buf (Elt F) (fLoc d) := flatOf (m ((SparseCore.T d).loc main_arg0))
/-- What the call leaves. -/
abbrev outM (d : Dev nD) : Buf (Elt F) (oLoc d) := scOut (labM m d) (flM m d)

/-! ## What the handshakes carry -/

/-- One tile's operands: its labels, its share of the flattened logits, its part of the result. -/
abbrev goP (d : Dev nD) (k : Fin 32) : sProp 𝕄 := iprop(lPart d k (labM m d) ∗ fPart d k (flM m d) ∗ oPart d k (m (oLoc d)))
/-- The same when the tile is done. -/
abbrev tdP (d : Dev nD) (k : Fin 32) : sProp 𝕄 := iprop(lPart d k (labM m d) ∗ fPart d k (flM m d) ∗ oPart d k (outM m d))

/-- Each tile takes its operands and brings them back; a SparseCore takes those of its sixteen tiles. -/
def P : (K (F := F)).Pay (nD := nD) (Val := Elt F) (Name := ℕ) (U := UU) where
  st := fun q d c => match q with | 0 => bigSep Finset.univ fun i : Fin 16 => goP m d (tno (Fin.cast nCore_zero c) i)
  dn := fun q d c => match q with | 0 => bigSep Finset.univ fun i : Fin 16 => tdP m d (tno (Fin.cast nCore_zero c) i)
  go := fun q d c i => match q with | 0 => goP m d (tno (Fin.cast nCore_zero c) (Fin.cast nSub_zero i))
  td := fun q d c i => match q with | 0 => tdP m d (tno (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goP m d (tno (Fin.cast nCore_zero c) i)))
  dn q d c := match q with
    | 0 => (inferInstance : BI.Storable (upEmb : UEmb _ 𝕄) (bigSep Finset.univ fun i : Fin 16 => tdP m d (tno (Fin.cast nCore_zero c) i)))
  go q d c i := match q with
    | 0 => (inferInstance : BI.Storable (upEmb : UEmb _ 𝕄) (goP m d (tno (Fin.cast nCore_zero c) (Fin.cast nSub_zero i))))
  td q d c i := match q with
    | 0 => (inferInstance : BI.Storable (upEmb : UEmb _ 𝕄) (tdP m d (tno (Fin.cast nCore_zero c) (Fin.cast nSub_zero i))))

/-! ## The tiles' obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          lV (Memref.isWhole_whole _) fV (Memref.isWhole_whole _) oV (Memref.isWhole_whole _)
          aV (Memref.isWhole_whole _) bV (Memref.isWhole_whole _) gV (Memref.isWhole_whole _) rV (Memref.isWhole_whole _)
          cc0_scratch4 cc0_scoped0 cc0_scoped1) ⟨⟩ c s := rfl

/-- A tile's waits, all outside the handshakes, are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl (hpre : ∀ d, InRange (labM m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (labM m d) (flM m d) (m (oLoc d)) (hpre d) O W hO).trans
    (wp_mono frame _ _ fun _ => obl_post)

/-- A SparseCore's operands are its tiles'. -/
theorem vecSplit : (K (F := F)).VecSplit' (P m) 0 := by
  intro d c
  show (bigSep Finset.univ fun i : Fin 16 => goP m d (tno (Fin.cast nCore_zero c) i)) ⊢ |={Set.univ}=> iprop(
      (bigSep Finset.univ fun i : Fin ((K (F := F)).nSub 0) => goP m d (tno (Fin.cast nCore_zero c) (Fin.cast nSub_zero i)))
      ∗ ((bigSep Finset.univ fun i : Fin ((K (F := F)).nSub 0) => tdP m d (tno (Fin.cast nCore_zero c) (Fin.cast nSub_zero i)))
          -∗ (bigSep Finset.univ fun i : Fin 16 => tdP m d (tno (Fin.cast nCore_zero c) i))))
  iintro H; imodintro
  isplitl [H]; · iexact H
  iintro H; iexact H

/-! ## The operands over the thirty-two tiles -/

theorem parts_disjoint : ∀ i ∈ (Finset.univ : Finset (Fin 32)), ∀ j ∈ (Finset.univ : Finset (Fin 32)), i ≠ j → Disjoint (pSet i) (pSet j) :=
  fun _ _ _ _ h => Rect.part_disjoint rdiv h
theorem parts_cover : (Finset.univ : Finset (Fin 32)).biUnion pSet = Finset.univ := Rect.biUnion_part rdiv

/-- The labels are their thirty-two parts. -/
theorem lPts_parts (d : Dev nD) (f : Buf (Elt F) (lLoc d)) :
    (lLoc d ↦{fullShare} f : sProp 𝕄) = bigSep Finset.univ fun k : Fin 32 => lPart d k f := by
  rw [← pointsTo_biUnion Finset.univ (ℓ := lLoc d) pSet parts_disjoint, parts_cover]; try rfl
/-- The result is its thirty-two parts. -/
theorem oPts_parts (d : Dev nD) (f : Buf (Elt F) (oLoc d)) :
    (oLoc d ↦{fullShare} f : sProp 𝕄) = bigSep Finset.univ fun k : Fin 32 => oPart d k f := by
  rw [← pointsTo_biUnion Finset.univ (ℓ := oLoc d) pSet parts_disjoint, parts_cover]; try rfl
/-- The flattened logits are held at their thirty-two shares. -/
theorem fPts_parts (d : Dev nD) (f : Buf (Elt F) (fLoc d)) :
    (fLoc d ↦{fullShare} f : sProp 𝕄) = bigSep Finset.univ fun k : Fin 32 => fPart d k f :=
  pointsTo_piecesOf Finset.univ f (by decide) fullShare

/-- The tiles are numbered by the parts. -/
def tnoEquiv : Fin 16 × Fin 2 ≃ Fin 32 := finProdFinEquiv
theorem tnoEquiv_apply (s : Fin 16) (c : Fin 2) : tnoEquiv (s, c) = tno c s := by
  apply Fin.ext
  simp [tnoEquiv, tno, finProdFinEquiv]
  omega

/-- A family over the parts, by SparseCores and tiles. -/
theorem bigSep_parts (Φ : Fin 32 → sProp 𝕄) :
    bigSep Finset.univ Φ = bigSep Finset.univ fun c : Fin 2 => bigSep Finset.univ fun s : Fin 16 => Φ (tno c s) := by
  rw [bigSep_univ_equiv ((Equiv.prodComm (Fin 2) (Fin 16)).trans tnoEquiv) Φ, bigSep_univ_prod]
  refine bigSep_congr fun c _ => bigSep_congr fun s _ => ?_
  rw [← tnoEquiv_apply]; rfl

/-- The call's operands, given out. -/
theorem st_eq (d : Dev nD) :
    (bigSep Finset.univ fun c : Fin ((K (F := F)).nCore 0) => (P m).st 0 d c)
      = iprop((lLoc d ↦{fullShare} labM m d) ∗ (fLoc d ↦{fullShare} flM m d) ∗ oLoc d ↦{fullShare} m (oLoc d)) := by
  rw [lPts_parts, fPts_parts, oPts_parts, ← bigSep_sep', ← bigSep_sep', bigSep_parts]
  rfl
/-- The call's operands, back. -/
theorem dn_eq (d : Dev nD) :
    (bigSep Finset.univ fun c : Fin ((K (F := F)).nCore 0) => (P m).dn 0 d c)
      = iprop((lLoc d ↦{fullShare} labM m d) ∗ (fLoc d ↦{fullShare} flM m d) ∗ oLoc d ↦{fullShare} outM m d) := by
  rw [lPts_parts, fPts_parts, oPts_parts, ← bigSep_sep', ← bigSep_sep', bigSep_parts]
  rfl

end Cert.Proof.Margin

end
-- ==== Proof.Tc.Body.lean ====
/-
  The TensorCore call: the contents its windows move, what one grid point's body computes on its staging buffers,
  and the pipeline's body obligation. The last block of the logits' and the result's columns passes the array's
  end (49 blocks of 2048 columns cover 100000), so these two windows are described on the columns inside the array.
-/
module

public import proofs.«01_k».proof.Proof.Sc.Call
public import proofs.«01_k».proof.Proof.Gen.KernelIdeal.Points
public import Idealize.ShloMosaic.Lib.Pipeline.KitQuiescent
public import Idealize.ShloMosaic.Lib.Pipeline.FrameBody
public import Idealize.ShloMosaic.Lib.Pointwise

@[expose] public section

set_option maxRecDepth 16384

noncomputable section

namespace Cert.Proof.Margin

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F] [Named F]

local notation "𝕄" => MT nD τ sig (HIx 1) (Elt F) ℕ UU ℕ

/-! ## What the call computes -/

/-- One entry of the result: in the row's label column the row's new value, elsewhere sixty-four times the logit. -/
def scaled (l : S1024x1.Idx → BitVec 32) (n : S1024x1.Idx → F .f32) (x : S1024x100000.Idx → F .f32) :
    S1024x100000.Idx → F .f32 := fun i =>
  if BitVec.ofNat 32 (i 1).val = l (ix2 (i 0) 0) then n (ix2 (i 0) 0)
  else FloatOps.mulf (x i) (Scalar.ofBits .f32 0x42800000#32)

/-- A column of a block is the label's, counted from the block's first, exactly if the array's column there is the
    label. -/
theorem column_eq_iff (t c : ℕ) (l : BitVec 32) :
    BitVec.ofNat 32 c = l - BitVec.ofNat 32 t * 2048#32 ↔ BitVec.ofNat 32 (t * 2048 + c) = l := by
  rw [BitVec.ofNat_add, BitVec.ofNat_mul, eq_comm, BitVec.sub_eq_iff_eq_add, eq_comm, BitVec.add_comm]

/-- The body's payload at one entry of the block. -/
theorem pay1_at (i : grid1.Coords) (l : S1024x1.Idx → BitVec 32) (n : S1024x1.Idx → F .f32)
    (x : S1024x2048.Idx → F .f32) (r : Fin 1024) (c : Fin 2048) :
    k1_pay1 i l n x (ix2 r c) =
      if BitVec.ofNat 32 ((i 1).val * 2048 + c.val) = l (ix2 r 0) then n (ix2 r 0)
      else FloatOps.mulf (x (ix2 r c)) (Scalar.ofBits .f32 0x42800000#32) := by
  pointwise [k1_pay1]
  have hc := column_eq_iff (i 1).val c.val (l (ix2 r 0))
  show Scalar.select (BitVec.ofBool (BitVec.ofNat 32 c.val == l (ix2 r 0) - BitVec.ofNat 32 (i 1).val * 2048#32)) _ _ = _
  by_cases h : BitVec.ofNat 32 c.val = l (ix2 r 0) - BitVec.ofNat 32 (i 1).val * 2048#32
  · rw [if_pos (hc.1 h), beq_iff_eq.2 h]; rfl
  · rw [if_neg (fun h' => h (hc.2 h')), beq_eq_false_iff_ne.2 h]; rfl

/-! ## The pipeline's proof data -/

section Data

variable (l : S1024x1.Idx → BitVec 32) (n : S1024x1.Idx → F .f32) (x o : S1024x100000.Idx → F .f32)

/-- The logits' block at a grid point, on the columns inside the array. -/
def xblk (t : Fin cfg1.N) : (win1_2.xblock (grid1.coords t)).Idx → Elt F .f32 :=
  (win1_2.blk t).view.read (Elt F) x

/-- The result's block there. -/
def oblk (t : Fin cfg1.N) : (win1_3.xblock (grid1.coords t)).Idx → Elt F .f32 :=
  (win1_3.blk t).view.read (Elt F) (scaled l n x)

/-- The pipeline's proof data: the arrays' contents at entry, what the body leaves in each window's staging buffer. -/
def dat (d : Dev nD) : Dat τ (Elt F) (HIx 1) ℕ UU ℕ cfg1 d where
  A w := match w with
    | ⟨0, _⟩ => l
    | ⟨1, _⟩ => n
    | ⟨2, _⟩ => x
    | ⟨3, _⟩ => o
  after w t := match w with
    | ⟨0, _⟩ => l
    | ⟨1, _⟩ => n
    | ⟨2, _⟩ => win1_2.fill (grid1.coords t) (fun _ => Scalar.ofBits .f32 0#32) (xblk x t)
    | ⟨3, _⟩ => win1_3.fill (grid1.coords t) (fun _ => Scalar.ofBits .f32 0#32) (oblk l n x t)
  Φ _ := iprop(emp)
  q _ := fullShare
  owed _ := 0
  recorded _ := {p | (K (F := F)).lev (SparseCore.T d, p.1) p.2 ≤ 8}

/-- The grid has one row of blocks. -/
theorem row_coord (i : grid1.Coords) : (BitVec.ofNat 32 (i 0).val).toNat = 0 := by
  have h : (i 0).val < 1 := (i 0).isLt
  rw [BitVec.toNat_ofNat]; omega

/-- The column coordinate as the index maps' word. -/
theorem col_coord (i : grid1.Coords) : (BitVec.ofNat 32 (i 1).val).toNat = (i 1).val := by
  have h : (i 1).val < 49 := (i 1).isLt
  rw [BitVec.toNat_ofNat]; omega

/-- The labels' one block is the array. -/
theorem block_0 (t : Fin cfg1.N) : (win1_0.blk t).view.read (Elt F) l = l := by
  funext j
  refine congrArg l (funext fun a => Fin.ext ?_)
  refine (win1_0.rect_emb_val_off t j a).trans ?_
  have h0 : cc1_transform_0 (grid1.coords t) a = 0 := by
    fin_cases a
    · exact row_coord (grid1.coords t)
    · rfl
  show cc1_transform_0 (grid1.coords t) a * S1024x1.size a + (j a).val = (j a).val
  rw [h0, Nat.zero_mul, Nat.zero_add]

/-- The new values' one block is the array. -/
theorem block_1 (t : Fin cfg1.N) : (win1_1.blk t).view.read (Elt F) n = n := by
  funext j
  refine congrArg n (funext fun a => Fin.ext ?_)
  refine (win1_1.rect_emb_val_off t j a).trans ?_
  have h0 : cc1_transform_1 (grid1.coords t) a = 0 := by
    fin_cases a
    · exact row_coord (grid1.coords t)
    · rfl
  show cc1_transform_1 (grid1.coords t) a * S1024x1.size a + (j a).val = (j a).val
  rw [h0, Nat.zero_mul, Nat.zero_add]

/-- The labels' buffer holds the labels at every point. -/
theorem before_0 (d : Dev nD) (t : Fin cfg1.N) (b) : (dat l n x o d).before (0 : Fin 4) t b = l := by
  refine ((dat l n x o d).before_in_eq_fetched (0 : Fin 4) rfl (fun _ => rfl) (fun _ _ _ => rfl) (fun t => ?_) t b).trans ?_
  · exact (block_0 (F := F) l t).symm
  · exact block_0 (F := F) l t

/-- The new values' buffer holds the new values at every point. -/
theorem before_1 (d : Dev nD) (t : Fin cfg1.N) (b) : (dat l n x o d).before (1 : Fin 4) t b = n := by
  refine ((dat l n x o d).before_in_eq_fetched (1 : Fin 4) rfl (fun _ => rfl) (fun _ _ _ => rfl) (fun t => ?_) t b).trans ?_
  · exact (block_1 n t).symm
  · exact block_1 n t

/-- The logits' buffer holds the point's block, past the array's end whatever was there. -/
theorem before_2 (d : Dev nD) (t : Fin cfg1.N) (b) :
    (dat l n x o d).before (2 : Fin 4) t b = win1_2.fill (grid1.coords t) b (xblk x t) :=
  (dat l n x o d).before_fetched (2 : Fin 4) t (fetch1_2 t) b

/-- The result's buffer holds anything. -/
theorem before_3 (d : Dev nD) (t : Fin cfg1.N) (b) : (dat l n x o d).before (3 : Fin 4) t b = b :=
  (dat l n x o d).before_out_reset (3 : Fin 4) rfl t
    ((Nat.eq_zero_or_pos t.val).imp id fun h => ⟨Nat.pos_iff_ne_zero.1 h, flush1_3 _⟩) b

end Data

/-! ## One point's body -/

set_option maxHeartbeats 1600000 in
/-- The body on staging buffers of the four windows: the whole loads, the dead load of the result's buffer, the whole
    store of the payload. -/
theorem sound_body (d : Dev nD) (E : Set ℕ) (i : grid1.Coords) (s0 s1 : Fin 1) (s2 s3 : Fin 2)
    (X0 : S1024x1.Idx → BitVec 32) (X1 : S1024x1.Idx → F .f32) (X2 X3 : S1024x2048.Idx → F .f32) (K : PUnit → sProp 𝕄) :
    iprop((owns (d : Thread nD τ) (stage1_0 s0) fullShare X0 ∗ owns (d : Thread nD τ) (stage1_1 s1) fullShare X1
            ∗ owns (d : Thread nD τ) (stage1_2 s2) fullShare X2 ∗ owns (d : Thread nD τ) (stage1_3 s3) fullShare X3)
          ∗ (iprop(owns (d : Thread nD τ) (stage1_0 s0) fullShare X0 ∗ owns (d : Thread nD τ) (stage1_1 s1) fullShare X1
                  ∗ owns (d : Thread nD τ) (stage1_2 s2) fullShare X2
                  ∗ owns (d : Thread nD τ) (stage1_3 s3) fullShare (k1_pay1 i X0 X1 X2)) -∗ K ⟨⟩))
      ⊢ wp frame (wpE (defs₀ (F := F)) 𝒱₀ d none) E
          (cc1__tc_body i (stage1_0 s0) (hstage1_0 s0) (stage1_1 s1) (hstage1_1 s1) (stage1_2 s2) (hstage1_2 s2)
            (stage1_3 s3) (hstage1_3 s3)) K := by
  have hz : (![0, 0] : Fin 2 → Nat) = fun _ => 0 := funext fun a => by fin_cases a <;> rfl
  have hr0 : (Memref.whole cc1_stg0_0 : Memref sig .tc _ _ _).view.readAt (Elt F) (Rect.unit (s := S1024x1) ![0, 0] S1024x1.size
      inb_S1024x1_S1024x1_0_0).toLoadRect = id := funext (Memref.readAt_unit_zero (Elt F) cc1_stg0_0 hz _)
  have hr1 : (Memref.whole cc1_stg1_0 : Memref sig .tc _ _ _).view.readAt (Elt F) (Rect.unit (s := S1024x1) ![0, 0] S1024x1.size
      inb_S1024x1_S1024x1_0_0).toLoadRect = id := funext (Memref.readAt_unit_zero (Elt F) cc1_stg1_0 hz _)
  have hr2 : (Memref.whole cc1_stg2_0 : Memref sig .tc _ _ _).view.readAt (Elt F) (Rect.unit (s := S1024x2048) ![0, 0] S1024x2048.size
      inb_S1024x2048_S1024x2048_0_0).toLoadRect = id := funext (Memref.readAt_unit_zero (Elt F) cc1_stg2_0 hz _)
  have hr2' : (Memref.whole cc1_stg2_1 : Memref sig .tc _ _ _).view.readAt (Elt F) (Rect.unit (s := S1024x2048) ![0, 0] S1024x2048.size
      inb_S1024x2048_S1024x2048_0_0).toLoadRect = id := funext (Memref.readAt_unit_zero (Elt F) cc1_stg2_1 hz _)
  have hw3 : ∀ f w, (((Memref.whole cc1_stg3_0).access (Rect.unit (s := S1024x2048) ![0, 0] S1024x2048.size
      inb_S1024x2048_S1024x2048_0_0)) : View sig .tc _ _ _).write (Elt F) f w Finset.univ = w :=
    Memref.write_access_unit_zero_univ (Elt F) cc1_stg3_0 hz _
  have hw3' : ∀ f w, (((Memref.whole cc1_stg3_1).access (Rect.unit (s := S1024x2048) ![0, 0] S1024x2048.size
      inb_S1024x2048_S1024x2048_0_0)) : View sig .tc _ _ _).write (Elt F) f w Finset.univ = w :=
    Memref.write_access_unit_zero_univ (Elt F) cc1_stg3_1 hz _
  fin_cases s0; fin_cases s1
  fin_cases s2 <;> fin_cases s3
  all_goals
    simp only [owns_whole_eq, cc1__tc_body_eq_skeleton]; unfold cc1__tc_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    first
      | rw [hr0, hr1, hr2, hw3]
      | rw [hr0, hr1, hr2, hw3']
      | rw [hr0, hr1, hr2', hw3]
      | rw [hr0, hr1, hr2', hw3']
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 i f0 f1 f2; isplitr; · ipureintro; rw [hf0, hf1, hf2]
      iexact H3

/-! ## The body obligation -/

section Obligation

variable (l : S1024x1.Idx → BitVec 32) (n : S1024x1.Idx → F .f32) (x o : S1024x100000.Idx → F .f32)

/-- Where an element of the result's block sits in the array. -/
theorem emb_row (t : Fin cfg1.N) (y : (win1_3.xblock (grid1.coords t)).Idx) :
    ((win1_3.rect t).emb y 0 : ℕ) = y 0 := by
  refine (win1_3.rect_emb_val_off t y 0).trans ?_
  show (BitVec.ofNat 32 ((grid1.coords t) 0).val).toNat * 1024 + (y 0).val = (y 0).val
  rw [row_coord, Nat.zero_mul, Nat.zero_add]

theorem emb_col (t : Fin cfg1.N) (y : (win1_3.xblock (grid1.coords t)).Idx) :
    ((win1_3.rect t).emb y 1 : ℕ) = ((grid1.coords t) 1).val * 2048 + y 1 := by
  refine (win1_3.rect_emb_val_off t y 1).trans ?_
  show (BitVec.ofNat 32 ((grid1.coords t) 1).val).toNat * 2048 + (y 1).val = _
  rw [col_coord]

/-- On the columns inside the array the payload is the result's block, whatever the logits' buffer holds past them. -/
theorem cut_pay1 (t : Fin cfg1.N) (b : S1024x2048.Idx → F .f32) :
    win1_3.cut (grid1.coords t) (k1_pay1 (grid1.coords t) l n (win1_2.fill (grid1.coords t) b (xblk x t))) = oblk l n x t := by
  funext y
  have hx : win1_2.fill (grid1.coords t) b (xblk x t) (win1_3.xinj (grid1.coords t) y) = x ((win1_3.rect t).emb y) :=
    win1_2.fill_xinj (grid1.coords t) b (xblk x t) y
  have he : win1_3.xinj (grid1.coords t) y
      = ix2 (win1_3.xinj (grid1.coords t) y 0 : Fin 1024) (win1_3.xinj (grid1.coords t) y 1 : Fin 2048) := eq_ix2 _
  have h0 : (win1_3.rect t).emb y 0 = (win1_3.xinj (grid1.coords t) y 0 : Fin 1024) := Fin.ext (emb_row t y)
  have h1 : ((win1_3.rect t).emb y 1 : ℕ) = ((grid1.coords t) 1).val * 2048 + (win1_3.xinj (grid1.coords t) y 1 : Fin 2048).val :=
    emb_col t y
  show k1_pay1 (grid1.coords t) l n (win1_2.fill (grid1.coords t) b (xblk x t)) (win1_3.xinj (grid1.coords t) y)
    = scaled l n x ((win1_3.rect t).emb y)
  unfold scaled
  rw [h1, h0, ← hx]
  generalize win1_2.fill (grid1.coords t) b (xblk x t) = X
  rw [he]
  exact pay1_at _ l n X _ _

/-- The library's body obligation: the labels' and new values' buffers hold the arrays, the logits' buffer its block
    filled out past the array's end with anything, the result's buffer anything; they leave holding the first three
    unchanged and the result's block on the columns inside the array. -/
theorem body_obligation (d : Dev nD) : BodyObligationLoose (dat l n x o d) (defs₀ (F := F)) 𝒱₀ none Set.univ := fun t => by
  rw [bigSep_W1, bigSep_W1]
  simp only
  rw [show (dat l n x o d).Φ t.succ = (dat l n x o d).Φ t.castSucc from rfl,
    show (dat l n x o d).owesAt none t.succ = (dat l n x o d).owesAt none t.castSucc from rfl]
  iintro ⟨HΦ, Ho, ⟨%d0, H0⟩, ⟨%d1, H1⟩, ⟨%d2, H2⟩, ⟨%d3, H3⟩⟩
  rw [before_0 l n x o d t d0, before_1 l n x o d t d1, before_2 l n x o d t d2, before_3 l n x o d t d3]
  iapply (sound_body (F := F) d Set.univ (grid1.coords t) (cfg1.slots t 0) (cfg1.slots t 1) (cfg1.slots t 2) (cfg1.slots t 3)
    l n (win1_2.fill (grid1.coords t) d2 (xblk x t)) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have hx : win1_2.cut (grid1.coords t) ((dat l n x o d).after 2 t) = xblk x t := win1_2.cut_fill _ _ _
  have ho : win1_3.cut (grid1.coords t) ((dat l n x o d).after 3 t) = oblk l n x t := win1_3.cut_fill _ _ _
  isplitl [H0]
  · iexact H0
  isplitl [H1]
  · iexact H1
  isplitl [H2]
  · iexists d2
    change _ ⊢ owns (d : Thread nD τ) (stage1_2 (cfg1.slots t 2)) fullShare (win1_2.fill (grid1.coords t) d2 (win1_2.cut (grid1.coords t) ((dat l n x o d).after 2 t)))
    rw [hx]; try iexact H2
  · iexists k1_pay1 (grid1.coords t) l n (win1_2.fill (grid1.coords t) d2 (xblk x t))
    change _ ⊢ owns (d : Thread nD τ) (stage1_3 (cfg1.slots t 3)) fullShare (win1_3.fill (grid1.coords t) (k1_pay1 (grid1.coords t) l n (win1_2.fill (grid1.coords t) d2 (xblk x t))) (win1_3.cut (grid1.coords t) ((dat l n x o d).after 3 t)))
    rw [ho, ← cut_pay1 l n x t d2, win1_3.fill_cut]; try iexact H3

end Obligation

end Cert.Proof.Margin
-- ==== Proof.Tc.Region.lean ====
/-
  The TensorCore call as one region of @main: what the result's array holds after it, and the region entered from and
  left to the four arrays it works on.
-/
module

public import proofs.«01_k».proof.Proof.Tc.Body
public import Idealize.ShloMosaic.Lib.Pipeline.KitQuiescent
public import Idealize.ShloMosaic.Lib.Pipeline.Regions
public import Idealize.ShloMosaic.Lib.Pipeline.RegionArrays
public import Idealize.ShloMosaic.Lib.Pipeline.Covers
public import Idealize.ShloMosaic.Lib.Pointwise

@[expose] public section

set_option maxRecDepth 16384

noncomputable section

namespace Cert.Proof.Margin

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F] [Named F]

local notation "𝕄" => MT nD τ sig (HIx 1) (Elt F) ℕ UU ℕ

variable (l : S1024x1.Idx → BitVec 32) (n : S1024x1.Idx → F .f32) (x o : S1024x100000.Idx → F .f32)

/-! ## The arrays after the call -/

/-- The result's blocks cover its array. -/
theorem covered (i : S1024x100000.Idx) : ∃ t : Fin cfg1.N, (cfg1.win 3).flush t = true ∧ i ∈ ((cfg1.win 3).blk t).view.set := by
  have hi : (i 1).val < 100000 := (i 1).isLt
  have hN : grid1.N = 49 := N_1
  refine ⟨⟨(i 1).val / 2048, ?_⟩, flush1_3 _, ?_⟩
  · show _ < grid1.N
    omega
  · generalize ht : (⟨(i 1).val / 2048, _⟩ : Fin cfg1.N) = t
    have htv : t.val = (i 1).val / 2048 := by rw [← ht]
    have hcol : ((grid1.coords t) 1).val = t.val := by
      rw [Pipeline.Grid.coords_val t 1 (S := 1) (B := 49) (by decide) rfl]
      omega
    show i ∈ ((View.whole main_v4).slice (win1_3.rect t)).set
    rw [View.set_slice_whole, Rect.mem_set_unit]
    intro a
    have he := win1_3.xsize_eq_or_end rfl (grid1.coords t) a
    have hs := win1_3.xsize_le (grid1.coords t) a
    revert he hs
    match a with
    | ⟨0, _⟩ =>
      have h0 : (i 0).val < 1024 := (i 0).isLt
      have hm : win1_3.indexMap (grid1.coords t) (0 : Fin 2) = 0 := row_coord (grid1.coords t)
      intro he hs
      change win1_3.xsize (grid1.coords t) (0 : Fin 2) = 1024 ∨ 1024 ≤ win1_3.indexMap (grid1.coords t) (0 : Fin 2) * 1024 + win1_3.xsize (grid1.coords t) (0 : Fin 2) at he
      show win1_3.indexMap (grid1.coords t) (0 : Fin 2) * 1024 ≤ (i 0).val ∧ (i 0).val < win1_3.indexMap (grid1.coords t) (0 : Fin 2) * 1024 + win1_3.xsize (grid1.coords t) (0 : Fin 2)
      rw [hm] at he ⊢
      omega
    | ⟨1, _⟩ =>
      have hm : win1_3.indexMap (grid1.coords t) (1 : Fin 2) = t.val := (col_coord (grid1.coords t)).trans hcol
      intro he hs
      change win1_3.xsize (grid1.coords t) (1 : Fin 2) = 2048 ∨ 100000 ≤ win1_3.indexMap (grid1.coords t) (1 : Fin 2) * 2048 + win1_3.xsize (grid1.coords t) (1 : Fin 2) at he
      show win1_3.indexMap (grid1.coords t) (1 : Fin 2) * 2048 ≤ (i 1).val ∧ (i 1).val < win1_3.indexMap (grid1.coords t) (1 : Fin 2) * 2048 + win1_3.xsize (grid1.coords t) (1 : Fin 2)
      rw [hm] at he ⊢
      omega

/-- The result's array after the call. -/
theorem arrAt_3 (d : Dev nD) : (dat l n x o d).arrAt (3 : Fin 4) cfg1.N = scaled l n x :=
  (dat l n x o d).arrAt_eq_of_cover (3 : Fin 4) (scaled l n x)
    (fun t _ => win1_3.cut_fill (grid1.coords t) (fun _ => Scalar.ofBits .f32 0#32) (oblk l n x t))
    covered

theorem arrAt_0 (d : Dev nD) (k : ℕ) : (dat l n x o d).arrAt (0 : Fin 4) k = l := (dat l n x o d).arrAt_in (0 : Fin 4) rfl _
theorem arrAt_1 (d : Dev nD) (k : ℕ) : (dat l n x o d).arrAt (1 : Fin 4) k = n := (dat l n x o d).arrAt_in (1 : Fin 4) rfl _
theorem arrAt_2 (d : Dev nD) (k : ℕ) : (dat l n x o d).arrAt (2 : Fin 4) k = x := (dat l n x o d).arrAt_in (2 : Fin 4) rfl _

/-! ## The region -/

/-- No pipeline has a prefetched table. -/
abbrev adm : (p : Fin 1) → (pcfgs (F := F) p).Adm := fun p => (cfgs p).toPCfg_adm

/-- The one pipeline's proof data. -/
def pdats : (p : Fin 1) → (d : Dev nD) → Dat τ (Elt F) (HIx 1) ℕ UU ℕ (Pipeline.pin (pcfgs (F := F)) adm p) d
  | 0 => dat l n x o

/-- The four arrays held whole. -/
def arrs (d : Dev nD) (y : S1024x100000.Idx → F .f32) : sProp 𝕄 :=
  iprop(((SparseCore.T d).loc main_v2 ↦{fullShare} l) ∗ ((SparseCore.T d).loc main_v3 ↦{fullShare} n)
    ∗ ((SparseCore.T d).loc main_arg0 ↦{fullShare} x) ∗ ((SparseCore.T d).loc main_v4 ↦{fullShare} y))

theorem arrays_entry (d : Dev nD) :
    (pdats l n x o 0 d).arrays ((pdats l n x o 0 d).arrAt · 0) = arrs l n x d o := by
  rw [Pipeline.arrays_eq (Pipeline.pin (pcfgs (F := F)) adm) (pdats l n x o) 0 d arr_whole1 ((dat l n x o d).share_full fun _ => rfl)]
  exact bigSep_W1 _

theorem arrays_exit (d : Dev nD) :
    (pdats l n x o 0 d).arrays ((pdats l n x o 0 d).arrAt · (Pipeline.pin (pcfgs (F := F)) adm 0).N) = arrs l n x d (scaled l n x) := by
  rw [Pipeline.arrays_eq (Pipeline.pin (pcfgs (F := F)) adm) (pdats l n x o) 0 d arr_whole1 ((dat l n x o d).share_full fun _ => rfl)]
  refine (bigSep_W1 _).trans ?_
  show iprop(((SparseCore.T d).loc main_v2 ↦{fullShare} (dat l n x o d).arrAt (0 : Fin 4) cfg1.N)
    ∗ ((SparseCore.T d).loc main_v3 ↦{fullShare} (dat l n x o d).arrAt (1 : Fin 4) cfg1.N)
    ∗ ((SparseCore.T d).loc main_arg0 ↦{fullShare} (dat l n x o d).arrAt (2 : Fin 4) cfg1.N)
    ∗ ((SparseCore.T d).loc main_v4 ↦{fullShare} (dat l n x o d).arrAt (3 : Fin 4) cfg1.N)) = _
  rw [arrAt_0, arrAt_1, arrAt_2, arrAt_3]
  rfl

/-- What the TensorCore owes after the last SparseCore call: nothing, its waits below the level bound. -/
def owesNone (d : Dev nD) : sProp 𝕄 :=
  iprop(∃ W, ⌜(K (F := F)).WBelow (SparseCore.T d) W 8⌝ ∗ owes (SparseCore.T d) (0 : CellTallies nD τ sig (HIx 1)) W)

/-- The region, at any level assignment of the waits' cells. -/
def region (L : GSem nD τ sig → Finset (HIx 1)) (lv : GSem nD τ sig → HIx 1 → ℕ) :
    Pipeline.RegionSeg (pcfgs (F := F)) adm (pdats l n x o) none defs₀ 𝒱₀ L lv 0 where
  win := launch1.win.to₀
  block_pos := block_pos1
  stage_whole := stage_whole1
  K := PEmpty
  osem k := k.elim
  ho := Pipeline.OwnSemFacts.none _
  hbody d := body_obligation l n x o d
  hwaits := Pipeline.hwaits_of_owed_zero _ _ _ _ L lv 0 fun _ _ => rfl
  pre d := iprop(arrs l n x d o ∗ owesNone d)
  post d := iprop(arrs l n x d (scaled l n x) ∗ owesNone d)
  X _ := iprop(emp)
  Y _ := iprop(emp)
  Z _ := iprop(emp)
  hentry d := by
    rw [Pipeline.ownSems0_none, Pipeline.prefHeld_of_none _ rfl, arrays_entry]
    iintro ⟨⟨Ha, HO⟩, -, -⟩
    imodintro
    isplitl [Ha]; · iexact Ha
    isplitr; · iempintro
    isplitl [HO]
    · unfold owesNone
      icases HO with ⟨%W, %hW, HO⟩
      iexists W
      isplitr
      · ipureintro; exact fun p hp => Or.inl (hW p hp)
      iexact HO
    isplitr <;> iempintro
  hin d := by
    iintro -
    iempintro
  hout d := by
    rw [Pipeline.ownSems0_none]
    iintro -
    isplitr; · iempintro
    isplitr; · iempintro
    rw [show (Pipeline.scopedRest (Pipeline.pin (pcfgs (F := F)) adm 0).spec d : sProp 𝕄) = BI.emp from scopedRest1_eq d]
    iempintro
  hexit d := by
    rw [arrays_exit]
    iintro ⟨Ha, HO, -, -⟩
    imodintro
    isplitl [Ha]; · iexact Ha
    unfold owesNone
    icases HO with ⟨%W, %hW, HO⟩
    iexists W
    isplitr
    · ipureintro
      intro p hp
      rcases hW hp with h | ⟨w, s, rfl⟩
      · exact h
      · exact Nat.zero_le _
    iexact HO

end Cert.Proof.Margin
-- ==== Proof.Run.lean ====
/-
  The run of the whole program over any float values: the host's reshapes, the SparseCore call, the TensorCore call,
  and what the result's array holds at the end.
-/
module

public import proofs.«01_k».proof.Proof.Tc.Region
public import Idealize.ShloMosaic.Lib.SparseCore.Quiescent
public import Idealize.ShloMosaic.Lib.StableHlo.Run
public import Idealize.ShloMosaic.Lib.Pipeline.KitQuiescent
public import Idealize.ShloMosaic.Lib.Pipeline.Regions
public import Idealize.ShloMosaic.Lib.Pipeline.RegionArrays
public import Idealize.ShloMosaic.Lib.Pipeline.Covers
public import Idealize.ShloMosaic.Lib.Pointwise

@[expose] public section

set_option maxRecDepth 16384

noncomputable section

namespace Cert.Proof.Margin

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose cellOf kernel pipe)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch's ghost state -/

/-- The handshakes' rounds at their start, the pipeline's at its start, no transfer counted. -/
def u₀ : UU :=
  (initOf (K (F := F)).hsCells (K (F := F)).hsToks, (initOf (Pipeline.cells cfgs cellOf_inj) (Pipeline.launchToks cfgs cellOf_inj), 1))

/-- What a device's TensorCore is given for its pipeline: the cells' and the tokens' ghost state. -/
def G (d : Dev nD) : sProp 𝕄 := iprop(Pipeline.cellsGhost cfgs EP 0 d ∗ Pipeline.toksInit cfgs EP 0 d)

omit [FloatOps F] [Named F] in
/-- The launch's element is its parts. -/
theorem ownU_parts (a : UH) (b : UP) (c : Counters) : (ownU ((a, (b, c)) : UU) : sProp 𝕄) ⊢ iprop(BI.own (EH a) ∗ BI.own (EP b)) := by
  have h : (BI.own (((Emb.inr : Emb (UP × Counters) UU).trans (uEmb (nD := nD) (sig := sig) (Ix := HIx 1) (Val := Elt F) (Name := ℕ) (U := UU) (Lvl := ℕ)).toEmb) (b, c)) : sProp 𝕄)
      ⊢ iprop(BI.own (EP b)
        ∗ BI.own (((Emb.inr : Emb (UP × Counters) UU).trans (uEmb (nD := nD) (sig := sig) (Ix := HIx 1) (Val := Elt F) (Name := ℕ) (U := UU) (Lvl := ℕ)).toEmb) (1, c))) :=
    BI.own_op_elim (((Emb.inr : Emb (UP × Counters) UU).trans (uEmb (nD := nD) (sig := sig) (Ix := HIx 1) (Val := Elt F) (Name := ℕ) (U := UU) (Lvl := ℕ)).toEmb).op_of_mem
      (Prod.mk_mem_op (URA.mem_op_one b) (URA.mem_one_op c)))
  exact (ownU_pair a (b, c)).trans (sep_mono_right (h.trans sep_elim_left))

omit [FloatOps F] [Named F] in
theorem bigSep_emp' {I : Type} (s : Finset I) : (bigSep s fun _ => iprop(emp)) = (iprop(emp) : sProp 𝕄) := bigSep_emp_const s

/-- The launch's ghost state funds the handshakes and each device's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_parts _ _ _) $$ Hu
  icases H with ⟨HH, HP⟩
  imod (Pipeline.fund_ghost cfgs EP cellOf_inj) $$ HP with ⟨Hc, Ht⟩
  imodintro
  isplitl [HH]; · iexact HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  isplitl [Hc Ht]
  · unfold G
    rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  iempintro

/-! ## The host's arrays -/

abbrev x' : DevRef τ sig := Proc.devRef .tc (main_arg0 : Ref sig .tc)
abbrev l' : DevRef τ sig := Proc.devRef .tc (main_arg1 : Ref sig .tc)
abbrev f' : DevRef τ sig := Proc.devRef .tc (main_v0 : Ref sig .tc)
abbrev o' : DevRef τ sig := Proc.devRef .tc (main_v1 : Ref sig .tc)
abbrev lc' : DevRef τ sig := Proc.devRef .tc (main_v2 : Ref sig .tc)
abbrev nc' : DevRef τ sig := Proc.devRef .tc (main_v3 : Ref sig .tc)
abbrev r' : DevRef τ sig := Proc.devRef .tc (main_v4 : Ref sig .tc)

/-- The logits flattened. -/
abbrev opF : HloOp τ sig (Elt F) := StableHlo.reshape main_arg0 main_v0 (rfl : (.f32 : EltTy) = .f32) shapeCasts_S1024x100000_S102400000
/-- The labels as a column. -/
abbrev opL : HloOp τ sig (Elt F) := StableHlo.reshape main_arg1 main_v2 (rfl : (.i32 : EltTy) = .i32) shapeCasts_S1024_S1024x1
/-- The new values as a column. -/
abbrev opN : HloOp τ sig (Elt F) := StableHlo.reshape main_v1 main_v3 (rfl : (.f32 : EltTy) = .f32) shapeCasts_S1024_S1024x1

/-- The host's arrays: the arguments, the flattened logits, the call's result, the two columns, the result. -/
abbrev S7 : Finset (DevRef τ sig) := {x', l', f', o', lc', nc', r'}

omit [FloatOps F] [Named F] in
theorem held_S7 (d : Dev nD) (W : Valuation τ sig (Elt F)) :
    (StableHlo.held (T d) S7 W : sProp 𝕄)
      = iprop(((SparseCore.T d).loc main_arg0 ↦{fullShare} W x') ∗ (lLoc d ↦{fullShare} W l') ∗ (fLoc d ↦{fullShare} W f') ∗ (oLoc d ↦{fullShare} W o')
          ∗ ((SparseCore.T d).loc main_v2 ↦{fullShare} W lc') ∗ ((SparseCore.T d).loc main_v3 ↦{fullShare} W nc') ∗ (SparseCore.T d).loc main_v4 ↦{fullShare} W r') := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ (lLoc d ↦{fullShare} W main_arg1) ∗ (fLoc d ↦{fullShare} W main_v0) ∗ (oLoc d ↦{fullShare} W main_v1)
          ∗ ((SparseCore.T d).loc main_v2 ↦{fullShare} W main_v2) ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch. -/
def V0 (d : Dev nD) : Valuation τ sig (Elt F) := fun b => m (d, b)
/-- The arrays before the SparseCore call. -/
def V1 (d : Dev nD) : Valuation τ sig (Elt F) := (opF (F := F)).result (V0 m d)
/-- The arrays after it. -/
def V2 (d : Dev nD) : Valuation τ sig (Elt F) := Function.update (V1 m d) o' (outM m d)
/-- The arrays before the TensorCore call. -/
def V4 (d : Dev nD) : Valuation τ sig (Elt F) := (opN (F := F)).result ((opL (F := F)).result (V2 m d))

omit [FloatOps F] [Named F] in
theorem unscoped_held (d : Dev nD) : (unscopedBufs d (fun b => m ((SparseCore.T d).loc b)) : sProp 𝕄) = StableHlo.held (T d) S7 (V0 m d) := by
  rw [unscopedBufs_eq, held_S7]; rfl

/-- A vector of rows as a column. -/
def colOf {α : Type} (f : S1024.Idx → α) : S1024x1.Idx → α := fun j => f (Shape.reshapeEquiv shapeCasts_S1024_S1024x1 j)

omit [FloatOps F] [Named F] in
theorem V1_f (d : Dev nD) : V1 m d f' = flM m d := StableHlo.reshape_result main_arg0 main_v0 _ _ _ _ _
omit [FloatOps F] [Named F] in
theorem V1_of_ne (d : Dev nD) {r : Ref sig .tc} (h : r ≠ main_v0) : V1 m d (Proc.devRef .tc r) = m ((SparseCore.T d).loc r) :=
  StableHlo.reshape_result_ne main_arg0 main_v0 _ _ _ _ (V0 m d) h
theorem V2_o (d : Dev nD) : V2 m d o' = outM m d := Function.update_self _ _ _
theorem V2_of_ne (d : Dev nD) {b : DevRef τ sig} (h : b ≠ o') : V2 m d b = V1 m d b := Function.update_of_ne h _ _
theorem V4_of_ne (d : Dev nD) {r : Ref sig .tc} (h : r ≠ main_v2) (h' : r ≠ main_v3) : V4 m d (Proc.devRef .tc r) = V2 m d (Proc.devRef .tc r) :=
  (StableHlo.reshape_result_ne main_v1 main_v3 _ _ _ _ ((opL (F := F)).result (V2 m d)) h').trans (StableHlo.reshape_result_ne main_arg1 main_v2 _ _ _ _ (V2 m d) h)
theorem V4_l (d : Dev nD) : V4 m d lc' = colOf (labM m d) := by
  refine (StableHlo.reshape_result_ne main_v1 main_v3 _ _ _ _ ((opL (F := F)).result (V2 m d)) (r := main_v2) (by decide)).trans ?_
  refine (StableHlo.reshape_result main_arg1 main_v2 _ _ _ _ _).trans ?_
  have h : V2 m d l' = labM m d := (V2_of_ne m d (by decide)).trans (V1_of_ne m d (r := main_arg1) (by decide))
  show (fun j => V2 m d l' (Shape.reshapeEquiv shapeCasts_S1024_S1024x1 j)) = _
  rw [h]; rfl
theorem V4_n (d : Dev nD) : V4 m d nc' = colOf (outM m d) := by
  refine (StableHlo.reshape_result main_v1 main_v3 _ _ _ _ _).trans ?_
  have h : (opL (F := F)).result (V2 m d) o' = outM m d :=
    (StableHlo.reshape_result_ne main_arg1 main_v2 _ _ _ _ (V2 m d) (r := main_v1) (by decide)).trans (V2_o m d)
  show (fun j => (opL (F := F)).result (V2 m d) o' (Shape.reshapeEquiv shapeCasts_S1024_S1024x1 j)) = _
  rw [h]; rfl

omit [Named F] in
theorem hF : (opF (F := F)).bufs ⊆ S7 := show ({x', f'} : Finset (DevRef τ sig)) ⊆ S7 by decide
theorem hL : (opL (F := F)).bufs ⊆ S7 := show ({l', lc'} : Finset (DevRef τ sig)) ⊆ S7 by decide
theorem hN : (opN (F := F)).bufs ⊆ S7 := show ({o', nc'} : Finset (DevRef τ sig)) ⊆ S7 by decide

/-! ## @main on the TensorCore -/

/-- The logits as launched. -/
abbrev xM (d : Dev nD) : S1024x100000.Idx → F .f32 := m ((SparseCore.T d).loc main_arg0)
/-- What the program leaves in its result: the scaled logits, each row's label's column at its new value. -/
def resM (d : Dev nD) : Buf (Elt F) ((SparseCore.T d : Thread nD τ).loc main_v4) := scaled (colOf (labM m d)) (colOf (outM m d)) (xM m d)

/-- What @main leaves the claims: the arguments as launched, the result at its value. -/
abbrev FIN (d : Dev nD) : sProp 𝕄 :=
  iprop(((SparseCore.T d).loc main_arg0 ↦{fullShare} xM m d) ∗ (lLoc d ↦{fullShare} labM m d) ∗ (SparseCore.T d).loc main_v4 ↦{fullShare} resM m d)

/-- @main's last statement is the pipeline's region, lifted. -/
theorem entry_lift : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) := rfl

theorem region_pre (d : Dev nD) (l : S1024x1.Idx → BitVec 32) (n : S1024x1.Idx → F .f32) (x o : S1024x100000.Idx → F .f32) :
    ((region l n x o (K (F := F)).L (K (F := F)).lev).pre d : sProp 𝕄) = iprop(arrs l n x d o ∗ owesNone d) := rfl
theorem region_post (d : Dev nD) (l : S1024x1.Idx → BitVec 32) (n : S1024x1.Idx → F .f32) (x o : S1024x100000.Idx → F .f32) :
    ((region l n x o (K (F := F)).L (K (F := F)).lev).post d : sProp 𝕄) = iprop(arrs l n x d (scaled l n x) ∗ owesNone d) := rfl

/-- The TensorCore call, from the four arrays it works on. -/
theorem wp_region [∀ e, Nonempty (Elt F e)] (κ : GSem nD τ sig → ℕ) (d : Dev nD) (l : S1024x1.Idx → BitVec 32) (n : S1024x1.Idx → F .f32) (x o : S1024x100000.Idx → F .f32) :
    iprop((K (F := F)).ctx EH (P m) κ ∗ boundary (SparseCore.T d) ∗ arrs l n x d o ∗ owesNone d ∗ G d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (SparseCore.T d) ∗ arrs l n x d (scaled l n x) ∗ owesNone d) := by
  rw [entry_lift]
  unfold G
  iintro ⟨#Hctx, Hb, Ha, HO, Hc, Ht⟩
  iapply ((K (F := F)).wp_liftProg (D (F := F)) 𝒱 (SparseCore.T d) Set.univ none _ _)
  iapply (Pipeline.RegionSeg.wp (pcfgs (F := F)) adm (pdats l n x o) none cellOf_inj EP defs₀ 𝒱₀ (K (F := F)).L (K (F := F)).lev
    (region l n x o (K (F := F)).L (K (F := F)).lev) d none (fun _ h => nomatch h) _ _)
  isplitr [Hb Ha HO Hc Ht]
  · iintro ⟨Hb, Hp⟩
    ihave Hp := (Entails.of_eq (region_post d l n x o)) $$ Hp
    icases Hp with ⟨Ha, HO⟩
    rw [wp_ret]; imodintro
    isplitl [Hb]; · iexact Hb
    isplitl [Ha]; · iexact Ha
    iexact HO
  isplitl [Hb]; · iexact Hb
  isplitl [Ha HO]
  · iapply (Entails.of_eq (region_pre d l n x o).symm)
    isplitl [Ha]; · iexact Ha
    iexact HO
  isplitr
  · iapply ((K (F := F)).ctx_levAts κ); iexact Hctx
  isplitl [Hc]; · iexact Hc
  iexact Ht

/-- The arrays before the SparseCore call, one by one. -/
theorem held_V1 (d : Dev nD) :
    (StableHlo.held (T d) S7 ((opF (F := F)).result (V0 m d)) : sProp 𝕄)
      = iprop(((SparseCore.T d).loc main_arg0 ↦{fullShare} V1 m d x') ∗ (lLoc d ↦{fullShare} labM m d) ∗ (fLoc d ↦{fullShare} flM m d) ∗ (oLoc d ↦{fullShare} m (oLoc d))
          ∗ ((SparseCore.T d).loc main_v2 ↦{fullShare} V1 m d lc') ∗ ((SparseCore.T d).loc main_v3 ↦{fullShare} V1 m d nc') ∗ (SparseCore.T d).loc main_v4 ↦{fullShare} V1 m d r') := by
  rw [show (opF (F := F)).result (V0 m d) = V1 m d from rfl, held_S7, V1_f, V1_of_ne m d (r := main_arg1) (by decide), V1_of_ne m d (r := main_v1) (by decide)]

/-- The arrays after it, one by one. -/
theorem held_V2 (d : Dev nD) :
    (StableHlo.held (T d) S7 (V2 m d) : sProp 𝕄)
      = iprop(((SparseCore.T d).loc main_arg0 ↦{fullShare} V1 m d x') ∗ (lLoc d ↦{fullShare} labM m d) ∗ (fLoc d ↦{fullShare} flM m d) ∗ (oLoc d ↦{fullShare} outM m d)
          ∗ ((SparseCore.T d).loc main_v2 ↦{fullShare} V1 m d lc') ∗ ((SparseCore.T d).loc main_v3 ↦{fullShare} V1 m d nc') ∗ (SparseCore.T d).loc main_v4 ↦{fullShare} V1 m d r') := by
  rw [held_S7, V2_o, V2_of_ne m d (b := x') (by decide), V2_of_ne m d (b := l') (by decide), V2_of_ne m d (b := f') (by decide), V2_of_ne m d (b := lc') (by decide),
    V2_of_ne m d (b := nc') (by decide), V2_of_ne m d (b := r') (by decide), V1_f, V1_of_ne m d (r := main_arg1) (by decide)]

/-- The arrays before the TensorCore call, one by one. -/
theorem held_V4 (d : Dev nD) :
    (StableHlo.held (T d) S7 ((opN (F := F)).result ((opL (F := F)).result (V2 m d))) : sProp 𝕄)
      = iprop(((SparseCore.T d).loc main_arg0 ↦{fullShare} xM m d) ∗ (lLoc d ↦{fullShare} labM m d) ∗ (fLoc d ↦{fullShare} V4 m d f') ∗ (oLoc d ↦{fullShare} V4 m d o')
          ∗ ((SparseCore.T d).loc main_v2 ↦{fullShare} colOf (labM m d)) ∗ ((SparseCore.T d).loc main_v3 ↦{fullShare} colOf (outM m d))
          ∗ (SparseCore.T d).loc main_v4 ↦{fullShare} V4 m d r') := by
  rw [show (opN (F := F)).result ((opL (F := F)).result (V2 m d)) = V4 m d from rfl, held_S7, V4_l, V4_n,
    V4_of_ne m d (r := main_arg0) (by decide) (by decide), V4_of_ne m d (r := main_arg1) (by decide) (by decide),
    V2_of_ne m d (b := x') (by decide), V2_of_ne m d (b := l') (by decide), V1_of_ne m d (r := main_arg0) (by decide), V1_of_ne m d (r := main_arg1) (by decide)]

/-- After the last SparseCore call the TensorCore owes nothing; what it owes may be taken out of its state and put back. -/
theorem tcSt_owes (d : Dev nD) :
    ((K (F := F)).tcSt EH d ((0 : Fin 1).val + 1) : sProp 𝕄) ⊢ iprop(owesNone (F := F) d ∗ (owesNone (F := F) d -∗ (K (F := F)).tcSt EH d 1)) := by
  show ((K (F := F)).tcSt EH d 1 : sProp 𝕄) ⊢ _
  unfold SparseCore.Cfg.tcSt owesNone
  rw [(K (F := F)).Otc_end d (n := 1) (le_refl 1)]
  iintro ⟨HO, Hst⟩
  isplitl [HO]; · iexact HO
  iintro HO
  isplitl [HO]; · iexact HO
  iexact Hst

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (StableHlo.wp_hlo_within 𝒱 (SparseCore.T d) none Set.univ (op := opF) (S := S7) hF (V := V0 m d)) $$ [Hb Hheld]
  · isplitl [Hb] <;> iassumption
  iintro ⟨Hb, Hheld⟩
  rw [wp_ret]; imodintro
  ihave Hheld := (Entails.of_eq (held_V1 m d)) $$ Hheld
  icases Hheld with ⟨Hx, Hl, Hf, Ho, Hlc, Hnc, Hr⟩
  iapply ((K (F := F)).wp_run (D (F := F)) 𝒱 (EH := EH) (P := P m) κ d 0) $$ [Hst Hx Hl Hf Ho Hlc Hnc Hr Hb Hts HG]
  isplitr; · iexact Hctx
  isplitl [Hst]; · iexact Hst
  isplitl [Hl Hf Ho]
  · rw [st_eq]
    isplitl [Hl]; · iexact Hl
    isplitl [Hf]; · iexact Hf
    iexact Ho
  iintro ⟨Hst, Hdn⟩
  ihave Hdn' := (Entails.of_eq (dn_eq m d)) $$ Hdn
  icases Hdn' with ⟨Hl, Hf, Ho⟩
  iapply (StableHlo.wp_hlo_within 𝒱 (SparseCore.T d) none Set.univ (op := opL) (S := S7) hL (V := V2 m d)) $$ [Hb Hx Hl Hf Ho Hlc Hnc Hr]
  · isplitl [Hb]; · iexact Hb
    rw [held_V2]
    isplitl [Hx]; · iexact Hx
    isplitl [Hl]; · iexact Hl
    isplitl [Hf]; · iexact Hf
    isplitl [Ho]; · iexact Ho
    isplitl [Hlc]; · iexact Hlc
    isplitl [Hnc]; · iexact Hnc
    iexact Hr
  iintro ⟨Hb, Hheld⟩
  rw [wp_ret]; imodintro
  iapply (StableHlo.wp_hlo_within 𝒱 (SparseCore.T d) none Set.univ (op := opN) (S := S7) hN (V := (opL (F := F)).result (V2 m d))) $$ [Hb Hheld]
  · isplitl [Hb] <;> iassumption
  iintro ⟨Hb, Hheld⟩
  rw [wp_ret]; imodintro
  ihave Hheld := (Entails.of_eq (held_V4 m d)) $$ Hheld
  icases Hheld with ⟨Hx, Hl, -, -, Hlc, Hnc, Hr⟩
  ihave H := (tcSt_owes (F := F) d) $$ Hst
  icases H with ⟨HO, Hback⟩
  iapply (wp_wand_r _ _ _)
  isplitl [Hb Hx Hlc Hnc Hr HO HG]
  · iapply (wp_region m κ d (colOf (labM m d)) (colOf (outM m d)) (xM m d) (V4 m d r'))
    isplitr; · iexact Hctx
    isplitl [Hb]; · iexact Hb
    isplitl [Hx Hlc Hnc Hr]
    · unfold arrs
      isplitl [Hlc]; · iexact Hlc
      isplitl [Hnc]; · iexact Hnc
      isplitl [Hx]; · iexact Hx
      iexact Hr
    isplitl [HO]; · iexact HO
    iexact HG
  iintro %a ⟨Hb, Ha, HO⟩
  unfold arrs
  icases Ha with ⟨-, -, Hx, Hr⟩
  ihave Hst := Hback $$ HO
  imodintro
  isplitl [Hst]; · iexact Hst
  isplitr [Hb Hts]
  · isplitl [Hx]; · iexact Hx
    isplitl [Hl]; · iexact Hl
    iexact Hr
  isplitl [Hb] <;> iassumption

/-- What the claims read of device `d`'s final state. -/
def fq (d : Dev nD) (s' : Phys nD τ sig (Elt F)) : Prop :=
  s'.mem.mem ((SparseCore.T d).loc main_v4) = resM m d ∧ s'.mem.mem ((SparseCore.T d).loc main_arg0) = m ((SparseCore.T d).loc main_arg0)
    ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hx, Hl, Hr⟩, HSI⟩
  ihave H := (persistent_entails_right (SI_pointsTo_agree (st := s') (ℓ := (SparseCore.T d).loc main_arg0) (I := Finset.univ) (q := fullShare) (f := xM m d))) $$ [HSI Hx]
  · isplitl [HSI] <;> iassumption
  icases H with ⟨%hx, HSI, -⟩
  ihave H := (persistent_entails_right (SI_pointsTo_agree (st := s') (ℓ := lLoc d) (I := Finset.univ) (q := fullShare) (f := labM m d))) $$ [HSI Hl]
  · isplitl [HSI] <;> iassumption
  icases H with ⟨%hl, HSI, -⟩
  ihave H := (SI_pointsTo_agree (st := s') (ℓ := (SparseCore.T d).loc main_v4) (I := Finset.univ) (q := fullShare) (f := resM m d)) $$ [HSI Hr]
  · isplitl [HSI] <;> iassumption
  icases H with %hr
  ipureintro
  exact ⟨funext fun i => hr i (Finset.mem_univ i), funext fun i => hx i (Finset.mem_univ i), funext fun i => hl i (Finset.mem_univ i)⟩

/-! ## The program's run -/

/-- What the run establishes: the result at its value, the arguments as launched, every semaphore at zero. -/
def QC : PUnit × MemSt nD τ sig (Elt F) → Prop := fun r =>
  (∀ d : Dev nD, r.2.mem ((SparseCore.T d).loc main_v4) = resM m d ∧ r.2.mem ((SparseCore.T d).loc main_arg0) = m ((SparseCore.T d).loc main_arg0)
    ∧ r.2.mem (lLoc d) = m (lLoc d)) ∧ r.2.sem = fun _ => 0

/-- The program runs from labels in range, and leaves its result at its value. -/
theorem run_main [∀ e, Nonempty (Elt F e)] (hpre : ∀ d, InRange (labM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Margin

end
-- ==== Proof.Frame.lean ====
/-
  The frames: what the preconditions say of the arguments, and the run of the whole program read as the claims that it
  terminates, changes no argument and leaves every semaphore at zero, at the words and at the ideal instance.
-/
module

public import proofs.«01_k».proof.Proof.Run
public import proofs.«01_k».proof.Proof.Gen.Kernel
public import proofs.«01_k».proof.Proof.Gen.ReferenceIdeal.Run
public import proofs.«01_k».proof.Proof.Gen.Pre_in_range
public import proofs.«01_k».proof.Proof.Gen.Pre_in_range_finite
public import Idealize.ShloMosaic.Lib.ReduceAll
public import Idealize.ShloMosaic.Lib.Pointwise

@[expose] public section

set_option maxRecDepth 16384

noncomputable section

namespace Cert.Proof.Margin

open Idealize.ShloMosaic Idealize.SL.Sem

/-- At the words a named constant is its word: the program as printed and the idealized one are then one text. -/
instance namedBits : Named Bits where
  named _ _ {φ} bits := Scalar.ofBits φ bits

/-! ## The preconditions -/

/-- A word at least zero and below the number of columns, as signed words, is below it. -/
theorem word_in_range (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem and_left {a b : BitVec 1} (h : IntOp.andi a b = 1#1) : a = 1#1 := by
  revert a b; decide
theorem and_right {a b : BitVec 1} (h : IntOp.andi a b = 1#1) : b = 1#1 := by
  revert a b; decide

/-- The labels' precondition gives their range. -/
theorem inRange_of_pre {F : FTy → Type} [FloatOps F] (x : FVec F Cert.Pre_in_range.S1024x100000 .f32) (l : IVec Cert.Pre_in_range.S1024 32)
    (h : Cert.Pre_in_range.fn (F := F) x l = fun _ => 1#1) : InRange l := by
  intro j
  have e := congrFun h j
  simp only [Cert.Pre_in_range.fn, andi, cmpi, broadcastInDim, constantI] at e
  exact word_in_range _ e

/-- The precondition with finite logits gives the labels' range, -/
theorem inRange_of_pre_finite (x : FVec Ideal Cert.Pre_in_range_finite.S1024x100000 .f32) (l : IVec Cert.Pre_in_range_finite.S1024 32)
    (h : Cert.Pre_in_range_finite.fn (F := Ideal) x l = fun _ => 1#1) : InRange l := by
  intro j
  have e := congrFun h ix0
  simp only [Cert.Pre_in_range_finite.fn, andi] at e
  have e1 := Host.reduce_andi_all _ _ _ _ _ (and_left e) j
  simp only [andi, cmpi, broadcastInDim, constantI] at e1
  exact word_in_range _ e1

/-- and each logit's finiteness. -/
theorem finite_of_pre (x : FVec Ideal Cert.Pre_in_range_finite.S1024x100000 .f32) (l : IVec Cert.Pre_in_range_finite.S1024 32)
    (h : Cert.Pre_in_range_finite.fn (F := Ideal) x l = fun _ => 1#1) (i : Cert.Pre_in_range_finite.S1024x100000.Idx) :
    ∃ r : ℝ, x i = (r : EReal) := by
  have e := congrFun h ix0
  simp only [Cert.Pre_in_range_finite.fn, andi] at e
  have e1 := Host.reduce_andi_all _ _ _ _ _ (and_right e) i
  have htop : Ideal.ofBits .f32 0x7F800000#32 = ⊤ := by simp [Ideal.ofBits, Ideal.ieee]
  change Ideal.cmp .olt (max (x i : EReal) (-(x i : EReal))) (Ideal.ofBits .f32 0x7F800000#32) = 1#1 at e1
  rw [htop] at e1
  have hlt : max (x i : EReal) (-(x i : EReal)) < ⊤ := by
    by_contra hn
    simp [Ideal.cmp, hn] at e1
  have h1 : (x i : EReal) ≠ ⊤ := fun h => by rw [h] at hlt; simp at hlt
  have h2 : (x i : EReal) ≠ ⊥ := fun h => by rw [h] at hlt; simp at hlt
  exact ⟨(x i : EReal).toReal, (EReal.coe_toReal h1 h2).symm⟩

/-! ## The frames -/

/-- The run, read as the frame: it terminates, the arguments stay, the semaphores end at zero. -/
theorem frame_run {F : FTy → Type} [FloatOps F] [Named F] [∀ e, Nonempty (Elt F e)]
    (m : (ℓ : Loc Cert.KernelIdeal.nD Cert.KernelIdeal.τ Cert.KernelIdeal.sig) → Buf (Elt F) ℓ) (g : Dev Cert.KernelIdeal.nD → PrngReg)
    (hpre : ∀ d, InRange (labM m d)) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, (h.1 c).2.2⟩, h.2⟩) (run_main m g hpre)

/-- At the words the two programs' kernels are one table. -/
theorem defs₀_words : (Cert.Kernel.defs₀ (F := Bits)) = (Cert.KernelIdeal.defs₀ (F := Bits)) := by
  funext p ℓ a
  match p, ℓ, a with
  | .tc, (0 : Fin 2), _ => rfl
  | .tc, (1 : Fin 2), _ => rfl
  | .scScalar _, (0 : Fin 2), _ => rfl
  | .scScalar _, (1 : Fin 2), _ => rfl
  | .scVector _ _, (0 : Fin 2), _ => rfl
  | .scVector _ _, (1 : Fin 2), _ => rfl

/-- So are the programs' body tables. -/
theorem defs_words : (Cert.Kernel.defs (F := Bits)) = (Cert.KernelIdeal.defs (F := Bits)) :=
  congrArg (fun D₀ => Cert.KernelIdeal.sc.defs (Pipeline.defs Cert.KernelIdeal.pcfgs D₀)) defs₀_words

/-- `Cert.quiescent_Kernel`. -/
theorem frame_kernel : Cert.quiescent_Kernel := by
  intro m ρ hpre
  rw [defs_words]
  exact frame_run (F := Bits) m ρ fun d => inRange_of_pre _ _ (hpre d)

/-- `Cert.quiescent_KernelIdeal`. -/
theorem frame_ideal : Cert.quiescent_KernelIdeal := fun m ρ hpre => frame_run (F := Ideal) m ρ fun d => inRange_of_pre _ _ (hpre d)

/-- `Cert.quiescent_KernelIdeal_pre_in_range_finite`. -/
theorem frame_ideal_finite : Cert.quiescent_KernelIdeal_pre_in_range_finite := fun m ρ hpre =>
  frame_run (F := Ideal) m ρ fun d => inRange_of_pre_finite _ _ (hpre d)

/-- `Cert.quiescent_ReferenceIdeal`. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_in_range_finite`. -/
theorem frame_reference_finite : Cert.quiescent_ReferenceIdeal_pre_in_range_finite := fun m ρ _ => frame_reference m ρ trivial

end Cert.Proof.Margin

end
-- ==== Proof.Value.Arith.lean ====
/-
  The margin's arithmetic at the ideal instance, one logit at a time: the kernel's identity
  `t·c − √(1−t²)·√(1−c²)`, with its root by Newton steps, is the cosine of the sum of two angles, and so the reference's value.
-/
module

public import proofs.«01_k».proof.Proof.Sc.Setup
public import Idealize.ShloMosaic.Lib.IdealHost
public import Idealize.ShloMosaic.Lib.Pointwise
public import Mathlib.Analysis.SpecialFunctions.Trigonometric.Inverse

@[expose] public section

set_option maxRecDepth 16384

noncomputable section

namespace Cert.Proof.Margin

open Idealize.ShloMosaic Idealize.SL.Sem

/-! ## The literals -/

/-- The largest cosine the clip lets through. -/
def capR : ℝ := 8388607 / 8388608
/-- The cosine of the margin. -/
def cosR : ℝ := 230053 / 262144
/-- The floor of what lies under the root. -/
def floorR : ℝ := 10633824 / 2 ^ 123

theorem lit_cap : Ideal.ofBits .f32 0x3F7FFFFE#32 = ((capR : ℝ) : EReal) := by
  simp [Ideal.ofBits, Ideal.ieee, capR, -EReal.coe_mul]; norm_num
theorem lit_negCap : Ideal.ofBits .f32 0xBF7FFFFE#32 = ((-capR : ℝ) : EReal) := by
  simp [Ideal.ofBits, Ideal.ieee, capR, -EReal.coe_mul, -EReal.coe_neg]; norm_num
theorem lit_cos : Ideal.ofBits .f32 0x3F60A940#32 = ((cosR : ℝ) : EReal) := by
  simp [Ideal.ofBits, Ideal.ieee, cosR, -EReal.coe_mul]; norm_num
theorem lit_negCos : Ideal.ofBits .f32 0xBF60A940#32 = ((-cosR : ℝ) : EReal) := by
  simp [Ideal.ofBits, Ideal.ieee, cosR, -EReal.coe_mul, -EReal.coe_neg]; norm_num
theorem lit_floor : Ideal.ofBits .f32 0x0DA24260#32 = ((floorR : ℝ) : EReal) := by
  simp [Ideal.ofBits, Ideal.ieee, floorR, -EReal.coe_mul]; norm_num
theorem lit_half : Ideal.ofBits .f32 0x3F000000#32 = (((1 : ℝ) / 2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num

/-- The named constant is the sine of the margin, the root of one less the square of its cosine. -/
theorem named_sin : (Named.named (F := Ideal) Cert.KernelIdeal.κ "sin_m" (φ := .f32) 0x3EF57744#32 : EReal) = ((Real.sqrt (1 - cosR ^ 2) : ℝ) : EReal) := by
  show ((Real.sqrt (15795093927 / 68719476736) : ℝ) : EReal) = _
  rw [show (1 - cosR ^ 2 : ℝ) = 15795093927 / 68719476736 by norm_num [cosR]]

/-! ## The kernel's value -/

/-- The logit held between the clip's bounds. -/
def clipR (x : ℝ) : ℝ := min capR (max (-capR) x)

theorem clipR_abs (x : ℝ) : -capR ≤ clipR x ∧ clipR x ≤ capR := by
  have h : (-capR : ℝ) ≤ capR := by norm_num [capR]
  exact ⟨le_min h (le_max_left _ _), min_le_left _ _⟩

theorem coe_min' (a b : ℝ) : min (a : EReal) (b : EReal) = ((min a b : ℝ) : EReal) := (EReal.coe_strictMono.monotone.map_min).symm
theorem coe_max' (a b : ℝ) : max (a : EReal) (b : EReal) = ((max a b : ℝ) : EReal) := (EReal.coe_strictMono.monotone.map_max).symm

theorem clipV_real (x : ℝ) : clipV (F := Ideal) ((x : ℝ) : EReal) = ((clipR x : ℝ) : EReal) := by
  show min (Ideal.ofBits .f32 0x3F7FFFFE#32) (max (Ideal.ofBits .f32 0xBF7FFFFE#32) (x : EReal)) = _
  rw [lit_cap, lit_negCap, coe_max', coe_min']; rfl

/-- Between the bounds what lies under the root is above its floor. -/
theorem floor_le (x : ℝ) : floorR ≤ 1 - clipR x ^ 2 := by
  obtain ⟨h1, h2⟩ := clipR_abs x
  have hs : clipR x ^ 2 ≤ capR ^ 2 := by nlinarith
  have : floorR ≤ 1 - capR ^ 2 := by norm_num [floorR, capR]
  linarith

theorem floor_pos : 0 < floorR := by norm_num [floorR]

theorem radV_real (x : ℝ) : radV (F := Ideal) ((x : ℝ) : EReal) = ((1 - clipR x ^ 2 : ℝ) : EReal) := by
  show max (Ideal.ofBits .f32 0x3F800000#32 - clipV (F := Ideal) (x : EReal) * clipV (F := Ideal) (x : EReal) : EReal)
    (Ideal.ofBits .f32 0x0DA24260#32) = _
  rw [clipV_real, lit_one, lit_floor, ← EReal.coe_mul, ← EReal.coe_sub, coe_max', ← pow_two, max_eq_left (floor_le x)]

/-- A Newton step at the root itself stays there. -/
theorem stepV_root {a : ℝ} (ha : 0 < a) : stepV (F := Ideal) ((a : ℝ) : EReal) ((Real.sqrt a : ℝ) : EReal) = ((Real.sqrt a : ℝ) : EReal) := by
  have hs : Real.sqrt a ≠ 0 := (Real.sqrt_pos.mpr ha).ne'
  show (Ideal.ofBits .f32 0x3F000000#32 : EReal) * (((Real.sqrt a : ℝ) : EReal) + Ideal.div ((a : ℝ) : EReal) ((Real.sqrt a : ℝ) : EReal)) = _
  rw [Ideal.div_coe hs, lit_half, ← EReal.coe_mul, ← EReal.coe_add, ← EReal.coe_mul, mul_one_div, Real.div_sqrt]
  congr 1; ring

theorem rootV_real (x : ℝ) : rootV (F := Ideal) ((x : ℝ) : EReal) = ((Real.sqrt (1 - clipR x ^ 2) : ℝ) : EReal) := by
  have ha : 0 < 1 - clipR x ^ 2 := lt_of_lt_of_le floor_pos (floor_le x)
  have hq : FloatOps.sqrt (F := Ideal) (φ := .f32) ((1 - clipR x ^ 2 : ℝ) : EReal) = ((Real.sqrt (1 - clipR x ^ 2) : ℝ) : EReal) := by
    show Ideal.sqrt _ = _
    rw [Ideal.sqrt_coe, if_neg (not_lt.mpr ha.le)]
  show stepV (radV _) (stepV (radV _) (stepV (radV _) (FloatOps.sqrt (radV _)))) = _
  rw [radV_real, hq, stepV_root ha, stepV_root ha, stepV_root ha]

/-! ## The reference's value -/

/-- The reference's cosine of one logit: its angle, with the margin added above the threshold. -/
def angleV (t : Ideal .f32) : Ideal .f32 :=
  FloatOps.hostUnary .cos (Scalar.select (FloatOps.cmpf .ogt t (FloatOps.ofBits .f32 0xBF60A940#32))
    (FloatOps.addf (FloatOps.hostUnary .acos (clipV t)) (FloatOps.hostUnary .acos (FloatOps.ofBits .f32 0x3F60A940#32)))
    (FloatOps.hostUnary .acos (clipV t)))

/-- The cosine of two angles' sum by their cosines. -/
theorem cos_sum {t c : ℝ} (ht : -1 ≤ t ∧ t ≤ 1) (hc : -1 ≤ c ∧ c ≤ 1) :
    Real.cos (Real.arccos t + Real.arccos c) = t * c - Real.sqrt (1 - t ^ 2) * Real.sqrt (1 - c ^ 2) := by
  rw [Real.cos_add, Real.cos_arccos ht.1 ht.2, Real.cos_arccos hc.1 hc.2, Real.sin_arccos, Real.sin_arccos]

/-- The kernel's value of a logit is 64 times the reference's cosine, a real. -/
theorem laneV_real (x : ℝ) : ∃ v : ℝ, angleV ((x : ℝ) : EReal) = ((v : ℝ) : EReal)
    ∧ laneV (F := Ideal) ((x : ℝ) : EReal) = ((v : ℝ) : EReal) * Ideal.ofBits .f32 0x42800000#32 := by
  have hcap : capR ≤ 1 := by norm_num [capR]
  obtain ⟨h1, h2⟩ := clipR_abs x
  have ht : -1 ≤ clipR x ∧ clipR x ≤ 1 := ⟨by linarith, by linarith⟩
  have hc : -1 ≤ cosR ∧ cosR ≤ 1 := ⟨by norm_num [cosR], by norm_num [cosR]⟩
  have ea : FloatOps.hostUnary (F := Ideal) (φ := .f32) .acos (clipV ((x : ℝ) : EReal)) = ((Real.arccos (clipR x) : ℝ) : EReal) := by
    rw [clipV_real]; rw [Ideal.hostUnary_acos_def, Ideal.acos_coe, if_pos ht]
  have ec : FloatOps.hostUnary (F := Ideal) (φ := .f32) .acos (FloatOps.ofBits .f32 0x3F60A940#32) = ((Real.arccos cosR : ℝ) : EReal) := by
    rw [Ideal.hostUnary_acos_def, Ideal.ofBits_def, lit_cos, Ideal.acos_coe, if_pos hc]
  have em : margV (F := Ideal) ((x : ℝ) : EReal) = ((clipR x * cosR - Real.sqrt (1 - clipR x ^ 2) * Real.sqrt (1 - cosR ^ 2) : ℝ) : EReal) := by
    show clipV (F := Ideal) (x : EReal) * Ideal.ofBits .f32 0x3F60A940#32
      - rootV (F := Ideal) (x : EReal) * Named.named (F := Ideal) Cert.KernelIdeal.κ "sin_m" (φ := .f32) 0x3EF57744#32 = _
    rw [clipV_real, rootV_real, lit_cos, named_sin, ← EReal.coe_mul, ← EReal.coe_mul, ← EReal.coe_sub]
  unfold angleV laneV
  rw [ea, ec, em, clipV_real]
  by_cases hb : FloatOps.cmpf (F := Ideal) (φ := .f32) .ogt ((x : ℝ) : EReal) (FloatOps.ofBits .f32 0xBF60A940#32) = 1#1
  · refine ⟨clipR x * cosR - Real.sqrt (1 - clipR x ^ 2) * Real.sqrt (1 - cosR ^ 2), ?_, ?_⟩
    · rw [hb]
      show Ideal.cos (((Real.arccos (clipR x) : ℝ) : EReal) + ((Real.arccos cosR : ℝ) : EReal)) = _
      rw [← EReal.coe_add, Ideal.cos_coe, cos_sum ht hc]
    · have hb' : FloatOps.cmpf (F := Ideal) (φ := .f32) .ogt ((x : ℝ) : EReal) (Scalar.ofBits .f32 0xBF60A940#32) = 1#1 := hb
      rw [hb']; rfl
  · have hb0 : FloatOps.cmpf (F := Ideal) (φ := .f32) .ogt ((x : ℝ) : EReal) (FloatOps.ofBits .f32 0xBF60A940#32) = 0#1 := by
      generalize FloatOps.cmpf (F := Ideal) (φ := .f32) .ogt ((x : ℝ) : EReal) (FloatOps.ofBits .f32 0xBF60A940#32) = b at hb
      revert b; decide
    refine ⟨clipR x, ?_, ?_⟩
    · rw [hb0]
      show Ideal.cos ((Real.arccos (clipR x) : ℝ) : EReal) = _
      rw [Ideal.cos_coe, Real.cos_arccos ht.1 ht.2]
    · have hb' : FloatOps.cmpf (F := Ideal) (φ := .f32) .ogt ((x : ℝ) : EReal) (Scalar.ofBits .f32 0xBF60A940#32) = 0#1 := hb0
      rw [hb']; rfl

/-- What the reference adds to the logit turns it into its cosine: the scaled sum is the kernel's value. -/
theorem laneV_eq (x : ℝ) : laneV (F := Ideal) ((x : ℝ) : EReal)
    = (((x : ℝ) : EReal) + (angleV ((x : ℝ) : EReal) - ((x : ℝ) : EReal)) : EReal) * Ideal.ofBits .f32 0x42800000#32 := by
  obtain ⟨v, hv, hl⟩ := laneV_real x
  rw [hl, hv, ← EReal.coe_sub, ← EReal.coe_add, add_sub_cancel]

end Cert.Proof.Margin

end
-- ==== Proof.Value.Ref.lean ====
/-
  The reference read at one index: its gather takes each row's logit at the row's label, its scatter adds one update to
  each row, at that label; so the result is 64 times the logit off the label, and 64 times the reference's cosine at it.
-/
module

public import proofs.«01_k».proof.Proof.Value.Arith
public import proofs.«01_k».proof.Proof.Gen.ReferenceIdeal.Run
public import Idealize.ShloMosaic.Lib.Routing.OpsPair
public import Idealize.ShloMosaic.Lib.Pointwise

@[expose] public section

set_option maxRecDepth 16384

noncomputable section

namespace Cert.Proof.Margin

open Idealize.ShloMosaic Idealize.SL.Sem
open Cert.ReferenceIdeal (S_ S1024 S1024x1 S1024x2 S1024x100000)

/-! ## The reference's term, by its parts -/

/-- The rows' index words. -/
def rowW : IVec S1024 32 :=
  select (cmpi .slt (iotaInDim S1024 32 0) (broadcastInDim S1024 ![] Cert.ReferenceIdeal.Facts₀.bcast_S_S1024 (constantI S_ 32 0#32)))
    (addi (iotaInDim S1024 32 0) (broadcastInDim S1024 ![] Cert.ReferenceIdeal.Facts₀.bcast_S_S1024 (constantI S_ 32 1024#32))) (iotaInDim S1024 32 0)

/-- The labels, zero in place of the mark of a row without one. -/
def labW (lb : IVec S1024 32) : IVec S1024 32 :=
  select (cmpi .ne lb (broadcastInDim S1024 ![] Cert.ReferenceIdeal.Facts₀.bcast_S_S1024 (constantI S_ 32 4294967295#32))) lb
    (broadcastInDim S1024 ![] Cert.ReferenceIdeal.Facts₀.bcast_S_S1024 (id (constantI S_ 32 0#32)))

/-- The columns' index words. -/
def colW (lb : IVec S1024 32) : IVec S1024 32 :=
  select (cmpi .slt (labW lb) (broadcastInDim S1024 ![] Cert.ReferenceIdeal.Facts₀.bcast_S_S1024 (constantI S_ 32 0#32)))
    (addi (labW lb) (broadcastInDim S1024 ![] Cert.ReferenceIdeal.Facts₀.bcast_S_S1024 (constantI S_ 32 100000#32))) (labW lb)

/-- Each row's pair of index words. -/
def pairW (lb : IVec S1024 32) : IVec S1024x2 32 :=
  concatenate S1024x2 1 [⟨S1024x1, broadcastInDim S1024x1 ![0] Cert.ReferenceIdeal.Facts₀.bcast_S1024_S1024x1_0 rowW⟩,
    ⟨S1024x1, broadcastInDim S1024x1 ![0] Cert.ReferenceIdeal.Facts₀.bcast_S1024_S1024x1_0 (colW lb)⟩]
    Cert.ReferenceIdeal.Facts₀.concatenates_S1024x1_S1024x1_S1024x2_d1

/-- Each row's logit at its label. -/
def pickV (x : FVec Ideal S1024x100000 .f32) (lb : IVec S1024 32) : FVec Ideal S1024 .f32 :=
  Host.gather Cert.ReferenceIdeal.gather_S1024x100000_S1024x2_S1024_n_01_n_n_01_1_11 x (pairW lb)

/-- Each row's update. -/
def updV (x : FVec Ideal S1024x100000 .f32) (lb : IVec S1024 32) : FVec Ideal S1024 .f32 := fun i =>
  Scalar.select (IntOp.cmpi .ne (lb i) 4294967295#32) (FloatOps.subf (angleV (pickV x lb i)) (pickV x lb i)) (Scalar.ofBits .f32 0x00000000#32)

/-- The reference's result. -/
def refOut (x : FVec Ideal S1024x100000 .f32) (lb : IVec S1024 32) : FVec Ideal S1024x100000 .f32 := fun i =>
  FloatOps.mulf (Host.scatterAdd Cert.ReferenceIdeal.scatter_S1024x100000_S1024x2_S1024_n_01_01_1 x (pairW lb) (updV x lb) i) (Scalar.ofBits .f32 0x42800000#32)

/-- The printed result is this term. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := rfl

/-! ## The index words -/

theorem ofBool_eq_one (p : Bool) : BitVec.ofBool p = 1#1 ↔ p = true := by cases p <;> decide

theorem not_slt_zero {v : BitVec 32} (h : v.toNat < 2 ^ 31) : IntOp.cmpi .slt v 0#32 = 0#1 := by
  have : ¬ (v.toInt < 0) := by rw [BitVec.toInt_eq_toNat_cond]; split <;> omega
  simp [IntOp.cmpi, BitVec.slt_eq_decide, this]

theorem rowW_at (k : Fin 1024) : rowW (ix1 k) = BitVec.ofNat 32 k.val := by
  have hk := k.isLt
  show Scalar.select (IntOp.cmpi .slt (BitVec.ofNat 32 k.val) 0#32) _ (BitVec.ofNat 32 k.val) = _
  rw [not_slt_zero (by rw [BitVec.toNat_ofNat]; omega)]; rfl

/-- A label in range is not the mark, -/
theorem ne_mark {v : BitVec 32} (h : v.toNat < 100000) : IntOp.cmpi .ne v 4294967295#32 = 1#1 := by
  have : v ≠ 4294967295#32 := fun e => by rw [e] at h; exact absurd h (by decide)
  show BitVec.ofBool (v != 4294967295#32) = 1#1
  rw [bne_iff_ne.mpr this]; rfl

theorem labW_at {lb : IVec S1024 32} (h : InRange lb) (k : Fin 1024) : labW lb (ix1 k) = lb (ix1 k) := by
  show Scalar.select (IntOp.cmpi .ne (lb (ix1 k)) 4294967295#32) (lb (ix1 k)) _ = _
  rw [ne_mark (h _)]; rfl

theorem colW_at {lb : IVec S1024 32} (h : InRange lb) (k : Fin 1024) : colW lb (ix1 k) = lb (ix1 k) := by
  have hk := h (ix1 k)
  show Scalar.select (IntOp.cmpi .slt (labW lb (ix1 k)) 0#32) _ (labW lb (ix1 k)) = _
  rw [labW_at h, not_slt_zero (by omega)]; rfl

/-- The first word of a row's pair is the row, -/
theorem pairW_row (lb : IVec S1024 32) (k : Fin 1024) : pairW lb (ix2 k (0 : Fin 2)) = BitVec.ofNat 32 k.val := by
  rw [← rowW_at k]
  unfold pairW
  refine (concatenate_pair_apply_left _ _ _ _ _ (by decide) (ix2 k (0 : Fin 1)) fun b => ?_).trans ?_
  · match b with
    | ⟨0, _⟩ => rfl
    | ⟨1, _⟩ => rfl
  · exact congrArg rowW (funext fun a => match a with | ⟨0, _⟩ => rfl)

/-- and the second its label. -/
theorem pairW_col {lb : IVec S1024 32} (h : InRange lb) (k : Fin 1024) : pairW lb (ix2 k (1 : Fin 2)) = lb (ix1 k) := by
  rw [← colW_at h k]
  unfold pairW
  refine (concatenate_pair_apply_right _ _ _ _ _ (by decide) (by decide) (ix2 k (0 : Fin 1)) (fun b hb => ?_) ?_).trans ?_
  · match b, hb with
    | ⟨0, _⟩, _ => rfl
    | ⟨1, _⟩, hb => exact absurd rfl hb
  · rfl
  · exact congrArg (colW lb) (funext fun a => match a with | ⟨0, _⟩ => rfl)

theorem toInt_row {k : ℕ} (h : k < 1024) : (BitVec.ofNat 32 k).toInt = (k : ℤ) := by
  rw [BitVec.toInt_eq_toNat_cond, BitVec.toNat_ofNat]; omega
theorem toInt_label {v : BitVec 32} (h : v.toNat < 100000) : v.toInt = (v.toNat : ℤ) := by
  rw [BitVec.toInt_eq_toNat_cond]; omega

/-! ## The gather and the scatter -/

/-- The gather reads row `k`'s logit at its label. -/
theorem pickV_at (x : FVec Ideal S1024x100000 .f32) {lb : IVec S1024 32} (h : InRange lb) (k : Fin 1024) :
    pickV x lb (ix1 k) = x (ix2 k ⟨(lb (ix1 k)).toNat, h (ix1 k)⟩) := by
  have hk := k.isLt
  have hl := h (ix1 k)
  unfold pickV Host.gather
  refine congrArg x (funext fun a => Fin.ext ?_)
  have hm : ∀ q : Fin 2, q ∈ ([0, 1] : List (Fin 2)) := by decide
  have hstart : ∀ q : Fin 2, GatherDims.start Cert.ReferenceIdeal.gather_S1024x100000_S1024x2_S1024_n_01_n_n_01_1_11 (ix1 k) (pairW lb) q
      = min (pairW lb (ix2 k q)).toInt.toNat ((![1023, 99999] : Fin 2 → ℕ) q) := by
    intro q
    unfold GatherDims.start
    rw [dif_pos (show q ∈ Cert.ReferenceIdeal.gather_S1024x100000_S1024x2_S1024_n_01_n_n_01_1_11.startIndexMap from hm q)]
    congr 1
    · congr 3
      funext b
      refine Fin.ext ?_
      match q, b with
      | ⟨0, _⟩, ⟨0, _⟩ => rfl
      | ⟨0, _⟩, ⟨1, _⟩ => rfl
      | ⟨1, _⟩, ⟨0, _⟩ => rfl
      | ⟨1, _⟩, ⟨1, _⟩ => rfl
    · match q with
      | ⟨0, _⟩ => rfl
      | ⟨1, _⟩ => rfl
  have hbatch : ∀ q : Fin 2, GatherDims.batchCoord Cert.ReferenceIdeal.gather_S1024x100000_S1024x2_S1024_n_01_n_n_01_1_11 (ix1 k) q = 0 :=
    fun q => GatherDims.batchCoord_eq_zero _ _ _ List.not_mem_nil
  have hoff : ∀ q : Fin 2, GatherDims.offCoord Cert.ReferenceIdeal.gather_S1024x100000_S1024x2_S1024_n_01_n_n_01_1_11 (ix1 k) q = 0 :=
    fun q => GatherDims.offCoord_eq_zero _ _ _ fun hq => ((GatherDims.mem_sKept _ _).mp hq).1 (hm q)
  have e0 : GatherDims.start Cert.ReferenceIdeal.gather_S1024x100000_S1024x2_S1024_n_01_n_n_01_1_11 (ix1 k) (pairW lb) (0 : Fin 2) = k.val := by
    rw [hstart, pairW_row, toInt_row hk, show (![1023, 99999] : Fin 2 → ℕ) 0 = 1023 from rfl]; omega
  have e1 : GatherDims.start Cert.ReferenceIdeal.gather_S1024x100000_S1024x2_S1024_n_01_n_n_01_1_11 (ix1 k) (pairW lb) (1 : Fin 2) = (lb (ix1 k)).toNat := by
    rw [hstart, pairW_col h, toInt_label hl, show (![1023, 99999] : Fin 2 → ℕ) 1 = 99999 from rfl]; omega
  have hsum : ∀ q : Fin 2, GatherDims.start Cert.ReferenceIdeal.gather_S1024x100000_S1024x2_S1024_n_01_n_n_01_1_11 (ix1 k) (pairW lb) q
      + GatherDims.batchCoord Cert.ReferenceIdeal.gather_S1024x100000_S1024x2_S1024_n_01_n_n_01_1_11 (ix1 k) q
      + GatherDims.offCoord Cert.ReferenceIdeal.gather_S1024x100000_S1024x2_S1024_n_01_n_n_01_1_11 (ix1 k) q
      = GatherDims.start Cert.ReferenceIdeal.gather_S1024x100000_S1024x2_S1024_n_01_n_n_01_1_11 (ix1 k) (pairW lb) q := fun q => by
    rw [hbatch, hoff]; rfl
  rcases (show a = (0 : Fin 2) ∨ a = (1 : Fin 2) from match a with | ⟨0, _⟩ => Or.inl rfl | ⟨1, _⟩ => Or.inr rfl) with rfl | rfl
  · exact (hsum 0).trans e0
  · exact (hsum 1).trans e1

/-- Row `k`'s update lands at row `k` and its label. -/
theorem lands {lb : IVec S1024 32} (h : InRange lb) (k r : Fin 1024) (c : Fin 100000) :
    ScatterDims.resultIdx? Cert.ReferenceIdeal.scatter_S1024x100000_S1024x2_S1024_n_01_01_1 (ix1 k) (pairW lb) = some (ix2 r c)
      ↔ k = r ∧ (lb (ix1 k)).toNat = c.val := by
  have hk := k.isLt
  have hl := h (ix1 k)
  have hm : ∀ q : Fin 2, q ∈ ([0, 1] : List (Fin 2)) := by decide
  have hstart : ∀ q : Fin 2, ScatterDims.start Cert.ReferenceIdeal.scatter_S1024x100000_S1024x2_S1024_n_01_01_1 (ix1 k) (pairW lb) q
      = (pairW lb (ix2 k q)).toInt := by
    intro q
    unfold ScatterDims.start
    rw [dif_pos (show q ∈ Cert.ReferenceIdeal.scatter_S1024x100000_S1024x2_S1024_n_01_01_1.scatterDimsToOperandDims from hm q)]
    congr 2
    funext b
    refine Fin.ext ?_
    match q, b with
    | ⟨0, _⟩, ⟨0, _⟩ => rfl
    | ⟨0, _⟩, ⟨1, _⟩ => rfl
    | ⟨1, _⟩, ⟨0, _⟩ => rfl
    | ⟨1, _⟩, ⟨1, _⟩ => rfl
  have hwin : ∀ q : Fin 2, ScatterDims.window Cert.ReferenceIdeal.scatter_S1024x100000_S1024x2_S1024_n_01_01_1 (ix1 k) q = 0 := fun q => by
    unfold ScatterDims.window
    rw [dif_neg fun hq => (of_decide_eq_true (List.mem_filter.1 hq).2) (hm q)]
  refine (Routing.resultIdx?_ix2 Cert.ReferenceIdeal.scatter_S1024x100000_S1024x2_S1024_n_01_01_1 (ix1 k) (pairW lb) r c).trans ?_
  rw [hstart, hstart, hwin, hwin, pairW_row, pairW_col h, toInt_row hk, toInt_label hl, Fin.ext_iff]
  omega

/-- The reference's result at an index. -/
theorem refOut_at (x : FVec Ideal S1024x100000 .f32) {lb : IVec S1024 32} (h : InRange lb) (r : Fin 1024) (c : Fin 100000) :
    refOut x lb (ix2 r c) = if (lb (ix1 r)).toNat = c.val
      then ((x (ix2 r c) + (angleV (x (ix2 r c)) - x (ix2 r c)) : EReal) * Ideal.ofBits .f32 0x42800000#32 : EReal)
      else ((x (ix2 r c) : EReal) * Ideal.ofBits .f32 0x42800000#32 : EReal) := by
  have hset : (Finset.univ.filter fun j : S1024.Idx =>
      ScatterDims.resultIdx? Cert.ReferenceIdeal.scatter_S1024x100000_S1024x2_S1024_n_01_01_1 j (pairW lb) = some (ix2 r c))
      = if (lb (ix1 r)).toNat = c.val then {ix1 r} else ∅ := by
    ext j
    obtain ⟨k, rfl⟩ : ∃ k : Fin 1024, j = ix1 k := ⟨j 0, eq_ix1 j⟩
    rw [Finset.mem_filter, lands h]
    split
    · next e =>
      rw [Finset.mem_singleton]
      constructor
      · rintro ⟨_, rfl, _⟩; rfl
      · intro hj
        have : k = r := congrFun hj 0
        subst this; exact ⟨Finset.mem_univ _, rfl, e⟩
    · next e =>
      refine ⟨?_, fun hf => absurd hf (Finset.notMem_empty _)⟩
      rintro ⟨_, rfl, e'⟩; exact absurd e' e
  show ((x (ix2 r c) + ∑ j ∈ Finset.univ.filter (fun j : S1024.Idx =>
      ScatterDims.resultIdx? Cert.ReferenceIdeal.scatter_S1024x100000_S1024x2_S1024_n_01_01_1 j (pairW lb) = some (ix2 r c)), updV x lb j : EReal)
      * Ideal.ofBits .f32 0x42800000#32 : EReal) = _
  rw [hset]
  split
  · next e =>
    rw [Finset.sum_singleton]
    have hp : pickV x lb (ix1 r) = x (ix2 r c) := (pickV_at x h r).trans (congrArg x (congrArg (ix2 r) (Fin.ext e)))
    show ((x (ix2 r c) + Scalar.select (IntOp.cmpi .ne (lb (ix1 r)) 4294967295#32)
      (FloatOps.subf (angleV (pickV x lb (ix1 r))) (pickV x lb (ix1 r))) _ : EReal) * _ : EReal) = _
    rw [hp, ne_mark (h (ix1 r))]; rfl
  · rw [Finset.sum_empty, add_zero]

end Cert.Proof.Margin

end
-- ==== Proof.Value.Algebraic.lean ====
/-
  The kernel's result read at one index, and the claim: from labels in range and finite logits the kernel and the
  reference leave one result.
-/
module

public import proofs.«01_k».proof.Proof.Value.Ref
public import proofs.«01_k».proof.Proof.Frame
public import Idealize.ShloMosaic.Lib.Pointwise

@[expose] public section

set_option maxRecDepth 16384

noncomputable section

namespace Cert.Proof.Margin

open Idealize.ShloMosaic Idealize.SL.Sem
open Cert.KernelIdeal (S1024 S1024x1 S1024x100000 S102400000)

/-! ## The kernel's two reshapes -/

/-- The flattened logits at a row times the columns plus a column are the logits there. -/
theorem flatOf_at {F : FTy → Type} [FloatOps F] [Named F] (x : S1024x100000.Idx → F .f32) (r : Fin 1024) (c : Fin 100000) :
    flatOf x (flatIx (r.val * 100000 + c.val)) = x (ix2 r c) := by
  have hr := r.isLt
  have hc := c.isLt
  unfold flatOf
  refine congrArg x (Shape.reshapeEquiv_eq_of_vals _ _ (ix2 r c) (r.val * 100000 + c.val) ((r.val * 100000 + c.val) % 102400000)
    (rowMajor_val2 _ 100000 rfl) (rowMajor_val1 _) ?_)
  omega

/-- A column's row is the vector's. -/
theorem colOf_at {α : Type} (f : S1024.Idx → α) (r : Fin 1024) : colOf f (ix2 r (0 : Fin 1)) = f (ix1 r) := by
  unfold colOf
  refine congrArg f (Shape.reshapeEquiv_eq_of_vals _ _ (ix1 r) r.val (r.val * 1 + 0) (rowMajor_val1 _) (rowMajor_val2 _ 1 rfl) ?_)
  omega

/-! ## The two results -/

/-- The kernel's result of the logits and the labels. -/
def kerOut (x : FVec Ideal S1024x100000 .f32) (lb : IVec S1024 32) : FVec Ideal S1024x100000 .f32 :=
  scaled (F := Ideal) (colOf lb) (colOf (scOut lb (flatOf x))) x

/-- The call's row is the margin of the row's logit at its label. -/
theorem scOut_at (x : FVec Ideal S1024x100000 .f32) {lb : IVec S1024 32} (h : InRange lb) (r : Fin 1024) :
    scOut (F := Ideal) lb (flatOf x) (ix1 r) = laneV (F := Ideal) (x (ix2 r ⟨(lb (ix1 r)).toNat, h (ix1 r)⟩)) := by
  show laneV (F := Ideal) (flatOf x (flatIx (offW lb (ix1 r)).toNat)) = _
  rw [offW_toNat h, ← flatOf_at x r ⟨(lb (ix1 r)).toNat, h (ix1 r)⟩]; rfl

/-- From labels in range and logits that are real numbers, the kernel's result is the reference's. -/
theorem kerOut_eq (x : FVec Ideal S1024x100000 .f32) {lb : IVec S1024 32} (h : InRange lb) (hx : ∀ i, ∃ a : ℝ, x i = ((a : ℝ) : EReal)) :
    kerOut x lb = refOut x lb := by
  funext i
  obtain ⟨r, c, rfl⟩ : ∃ (r : Fin 1024) (c : Fin 100000), i = ix2 r c := ⟨i 0, i 1, eq_ix2 i⟩
  have hc := c.isLt
  have hl := h (ix1 r)
  rw [refOut_at x h r c]
  show (if BitVec.ofNat 32 c.val = colOf lb (ix2 r (0 : Fin 1)) then colOf (scOut (F := Ideal) lb (flatOf x)) (ix2 r (0 : Fin 1))
    else FloatOps.mulf (x (ix2 r c)) (Scalar.ofBits .f32 0x42800000#32)) = _
  rw [colOf_at, colOf_at, scOut_at x h]
  have hiff : BitVec.ofNat 32 c.val = lb (ix1 r) ↔ (lb (ix1 r)).toNat = c.val := by
    rw [← BitVec.toNat_inj, BitVec.toNat_ofNat]; omega
  by_cases e : (lb (ix1 r)).toNat = c.val
  · rw [if_pos (hiff.mpr e), if_pos e, show (⟨(lb (ix1 r)).toNat, h (ix1 r)⟩ : Fin 100000) = c from Fin.ext e]
    obtain ⟨a, ha⟩ := hx (ix2 r c)
    rw [ha]; exact laneV_eq a
  · rw [if_neg (fun hh => e (hiff.mp hh)), if_neg e]; rfl

/-! ## The claim -/

/-- `Cert.algebraic_KernelIdeal_ReferenceIdeal_pre_in_range_finite`. -/
theorem algebraic : Cert.algebraic_KernelIdeal_ReferenceIdeal_pre_in_range_finite := by
  intro m g m' g' hpre hargs
  have hr : ∀ d, InRange (labM (F := Ideal) m d) := fun d => inRange_of_pre_finite _ _ (hpre d)
  refine ⟨fun c => resM (F := Ideal) m c,
    (θ_run Cert.KernelIdeal.defs _ _).mono (fun _ h c => h.1 c) (run_main (F := Ideal) m g hr), ?_⟩
  refine (θ_run Cert.ReferenceIdeal.defs _ _).mono (fun r h c => ⟨?_, (h c).2⟩) (Cert.ReferenceIdeal.Value.run (F := Ideal) m' g')
  refine (h c).1.trans ((res_eq m' c).trans ?_)
  rw [(hargs c).1, (hargs c).2]
  exact (kerOut_eq _ (hr c) (finite_of_pre _ _ (hpre c))).symm

end Cert.Proof.Margin

end
-- ==== Proof.lean ====
/-
  The proof of `Cert.Claim`: the frames of the kernel at the words and at the ideal instance and of the reference, the
  named constant kept by the idealization, and the kernel's result equal to the reference's over the reals.

  Proof/Sc: the vector subcores' call (Setup: the values and the chambers, Lane: the lanes' arithmetic, Tile: one
  subcore's body, Call: the call over all of them). Proof/Tc: the pipelined region (Body: one block, Region: the grid).
  Proof/Run: @main. Proof/Frame: the frames. Proof/Value: the arithmetic, the reference read at an index, the claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_finite
public import proofs.«01_k».proof.Proof.Frame
public import proofs.«01_k».proof.Proof.Value.Algebraic

@[expose] public section

noncomputable section

namespace Cert.Proof

open Idealize.ShloMosaic

/-- Everything the certificate claims. -/
theorem claim : Cert.Claim :=
  ⟨Cert.Kernel.Gen.facts, Cert.KernelIdeal.Gen.facts, Cert.ReferenceIdeal.Gen.facts, Cert.Pre_in_range.Gen.facts, Cert.Pre_in_range_finite.Gen.facts,
    Margin.frame_kernel, Margin.frame_ideal, Margin.frame_ideal_finite, Margin.frame_reference, Margin.frame_reference_finite,
    IdealRules.named_const.statement _ _ _ _ _ rfl, Margin.algebraic⟩

end Cert.Proof

end
